-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  bcast_S_S4096x8192 : S_.BroadcastsInDim S4096x8192 (![] : Fin 0 → Fin S4096x8192.rank)

variable [Facts]

def fn {F : FTy → Type} [FloatOps F] (main_arg0 : FVec F S2048x4096 .f32) (main_arg1 : FVec F S4096x8192 .f32) : IVec S2048x4096 1 × IVec S4096x8192 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  (main_v2, main_v5)
-- ==== Pre_finite_inputs_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  bcast_S_S4096x16384 : S_.BroadcastsInDim S4096x16384 (![] : Fin 0 → Fin S4096x16384.rank)

variable [Facts]

def fn {F : FTy → Type} [FloatOps F] (main_arg0 : FVec F S2048x4096 .f32) (main_arg1 : FVec F S4096x16384 .f32) : IVec S2048x4096 1 × IVec S4096x16384 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S4096x16384 .f32 := Host.absf main_arg1
  let main_cst_0 : FVec F S_ .f32 := constant S_ .f32 0x7F800000#32
  let main_v4 : FVec F S4096x16384 .f32 := broadcastInDim S4096x16384 ![] bcast_S_S4096x16384 main_cst_0
  let main_v5 : IVec S4096x16384 1 := cmpf .olt main_v3 main_v4
  (main_v2, main_v5)
-- ==== Kernel.lean ====
abbrev S2048x4096 : Shape := ⟨2, ![2048, 4096]⟩
abbrev S4096x8192 : Shape := ⟨2, ![4096, 8192]⟩
abbrev S2048x16384 : Shape := ⟨2, ![2048, 16384]⟩
abbrev S2048x8192 : Shape := ⟨2, ![2048, 8192]⟩
abbrev S2x2048x512 : Shape := ⟨3, ![2, 2048, 512]⟩
abbrev S2x4096x512 : Shape := ⟨3, ![2, 4096, 512]⟩
abbrev S4096x512 : Shape := ⟨2, ![4096, 512]⟩
abbrev S2048x512 : Shape := ⟨2, ![2048, 512]⟩
abbrev S2x2048x128 : Shape := ⟨3, ![2, 2048, 128]⟩
abbrev S16 : Shape := ⟨1, ![16]⟩
abbrev S_ : Shape := ⟨0, ![]⟩
abbrev S2 : Shape := ⟨1, ![2]⟩
abbrev S1 : Shape := ⟨1, ![1]⟩
abbrev S1x2048x512 : Shape := ⟨3, ![1, 2048, 512]⟩
abbrev S1x4096x512 : Shape := ⟨3, ![1, 4096, 512]⟩
abbrev S2048x1 : Shape := ⟨2, ![2048, 1]⟩
abbrev S2048 : Shape := ⟨1, ![2048]⟩
abbrev S2048x128 : Shape := ⟨2, ![2048, 128]⟩
abbrev S1x2048x128 : Shape := ⟨3, ![1, 2048, 128]⟩
abbrev S1x2048x1 : Shape := ⟨3, ![1, 2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x16384, .f32⟩
  | .hbm, ⟨3, _⟩ => ⟨S2048x8192, .bf16⟩
  | .hbm, ⟨4, _⟩ => ⟨S2048x8192, .bf16⟩
  | .local _ .vmem, ⟨0, _⟩ => ⟨S2048x4096, .bf16⟩
  | .local _ .vmem, ⟨1, _⟩ => ⟨S2x2048x512, .f32⟩
  | .local _ .vmem, ⟨2, _⟩ => ⟨S2x4096x512, .f32⟩
  | .local _ .vmem, ⟨3, _⟩ => ⟨S4096x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | .local _ .vmem, ⟨7, _⟩ => ⟨S2x2048x128, .f32⟩
  | .local _ .vmem, ⟨8, _⟩ => ⟨S2x2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
@[reducible] def k0_t1_loop : Scf.Loop 32 :=
  let c0_i32_14 : BitVec 32 := 0#32
  let c8_i32_15 : BitVec 32 := 8#32
  let v22 : BitVec 32 := Scalar.addi c0_i32_14 c8_i32_15
  let c1_i32_16 : BitVec 32 := 1#32
  ⟨c0_i32_14, v22, c1_i32_16⟩
def k0_off1 (k0_t1 : Fin k0_t1_loop.trips) : Fin 1 → Nat :=
  let c0_i32_14 : BitVec 32 := 0#32
  let c1_i32_16 : BitVec 32 := 1#32
  let arg23 : BitVec 32 := Scf.iv c0_i32_14 c1_i32_16 k0_t1
  let c2_i32_66 : BitVec 32 := 2#32
  let v75 : BitVec 32 := Scalar.remsi arg23 c2_i32_66
  ![v75.toNat]
def k0_off2 (k0_t1 : Fin k0_t1_loop.trips) : Fin 3 → Nat :=
  let c0_i32_14 : BitVec 32 := 0#32
  let c1_i32_16 : BitVec 32 := 1#32
  let arg23 : BitVec 32 := Scf.iv c0_i32_14 c1_i32_16 k0_t1
  let c2_i32_66 : BitVec 32 := 2#32
  let v75 : BitVec 32 := Scalar.remsi arg23 c2_i32_66
  let c0_i32_67 : BitVec 32 := 0#32
  let c0_i32_68 : BitVec 32 := 0#32
  ![v75.toNat, 0, 0]
def k0_off3 (k0_t1 : Fin k0_t1_loop.trips) : Fin 2 → Nat :=
  let c0_i32_69 : BitVec 32 := 0#32
  let c0_i32_14 : BitVec 32 := 0#32
  let c1_i32_16 : BitVec 32 := 1#32
  let arg23 : BitVec 32 := Scf.iv c0_i32_14 c1_i32_16 k0_t1
  let c512_i32 : BitVec 32 := 512#32
  let v76 : BitVec 32 := Scalar.muli arg23 c512_i32
  ![0, v76.toNat]
def k0_cond1 (k0_t1 : Fin k0_t1_loop.trips) : BitVec 1 :=
  let c0_i32_14 : BitVec 32 := 0#32
  let c1_i32_16 : BitVec 32 := 1#32
  let arg23 : BitVec 32 := Scf.iv c0_i32_14 c1_i32_16 k0_t1
  let c7_i32 : BitVec 32 := 7#32
  let v82 : BitVec 1 := Scalar.cmpi .slt arg23 c7_i32
  let v83 : BitVec 32 := Scalar.extui v82
  let c0_i32_70 : BitVec 32 := 0#32
  let v84 : BitVec 1 := Scalar.cmpi .ne v83 c0_i32_70
  v84

def k0_off4 (k0_t1 : Fin k0_t1_loop.trips) : Fin 1 → Nat :=
  let c0_i32_14 : BitVec 32 := 0#32
  let c1_i32_16 : BitVec 32 := 1#32
  let arg23 : BitVec 32 := Scf.iv c0_i32_14 c1_i32_16 k0_t1
  let c1_i32_76 : BitVec 32 := 1#32
  let v95 : BitVec 32 := Scalar.addi arg23 c1_i32_76
  let c2_i32_77 : BitVec 32 := 2#32
  let v96 : BitVec 32 := Scalar.remsi v95 c2_i32_77
  ![v96.toNat]
def k0_off5 (k0_t1 : Fin k0_t1_loop.trips) : Fin 3 → Nat :=
  let c0_i32_14 : BitVec 32 := 0#32
  let c1_i32_16 : BitVec 32 := 1#32
  let arg23 : BitVec 32 := Scf.iv c0_i32_14 c1_i32_16 k0_t1
  let c1_i32_76 : BitVec 32 := 1#32
  let v95 : BitVec 32 := Scalar.addi arg23 c1_i32_76
  let c2_i32_77 : BitVec 32 := 2#32
  let v96 : BitVec 32 := Scalar.remsi v95 c2_i32_77
  let c0_i32_79 : BitVec 32 := 0#32
  let c0_i32_80 : BitVec 32 := 0#32
  ![v96.toNat, 0, 0]
def k0_off6 (k0_t1 : Fin k0_t1_loop.trips) : Fin 2 → Nat :=
  let c0_i32_81 : BitVec 32 := 0#32
  let c0_i32_14 : BitVec 32 := 0#32
  let c1_i32_16 : BitVec 32 := 1#32
  let arg23 : BitVec 32 := Scf.iv c0_i32_14 c1_i32_16 k0_t1
  let c1_i32_75 : BitVec 32 := 1#32
  let v94 : BitVec 32 := Scalar.addi arg23 c1_i32_75
  let c512_i32_78 : BitVec 32 := 512#32
  let v97 : BitVec 32 := Scalar.muli v94 c512_i32_78
  ![0, v97.toNat]
def k0_off7 (k0_t1 : Fin k0_t1_loop.trips) : Fin 3 → Nat :=
  let c0_i32_14 : BitVec 32 := 0#32
  let c1_i32_16 : BitVec 32 := 1#32
  let arg23 : BitVec 32 := Scf.iv c0_i32_14 c1_i32_16 k0_t1
  let c2_i32_66 : BitVec 32 := 2#32
  let v75 : BitVec 32 := Scalar.remsi arg23 c2_i32_66
  let v85 : Index := Scalar.indexCast v75
  let c0_71 : Index := 0#32
  let c0_72 : Index := 0#32
  ![v85.toNat, 0, 0]
def k0_off8 (k0_t1 : Fin k0_t1_loop.trips) : Fin 2 → Nat :=
  let c0_74 : Index := 0#32
  let c0_i32_14 : BitVec 32 := 0#32
  let c1_i32_16 : BitVec 32 := 1#32
  let arg23 : BitVec 32 := Scf.iv c0_i32_14 c1_i32_16 k0_t1
  let c512_i32_73 : BitVec 32 := 512#32
  let v89 : BitVec 32 := Scalar.muli arg23 c512_i32_73
  let v90 : Index := Scalar.indexCast v89
  ![0, v90.toNat]
@[reducible] def k0_t2_loop : Scf.Loop 32 :=
  let c0_i32_25 : BitVec 32 := 0#32
  let c16_i32 : BitVec 32 := 16#32
  let v30 : BitVec 32 := Scalar.addi c0_i32_25 c16_i32
  let c1_i32_26 : BitVec 32 := 1#32
  ⟨c0_i32_25, v30, c1_i32_26⟩
def k0_off9 (k0_t2 : Fin k0_t2_loop.trips) : Fin 1 → Nat :=
  let c0_i32_25 : BitVec 32 := 0#32
  let c1_i32_26 : BitVec 32 := 1#32
  let arg23 : BitVec 32 := Scf.iv c0_i32_25 c1_i32_26 k0_t2
  let c2_i32_66 : BitVec 32 := 2#32
  let v75 : BitVec 32 := Scalar.remsi arg23 c2_i32_66
  ![v75.toNat]
def k0_off10 (k0_t2 : Fin k0_t2_loop.trips) : Fin 3 → Nat :=
  let c0_i32_25 : BitVec 32 := 0#32
  let c1_i32_26 : BitVec 32 := 1#32
  let arg23 : BitVec 32 := Scf.iv c0_i32_25 c1_i32_26 k0_t2
  let c2_i32_66 : BitVec 32 := 2#32
  let v75 : BitVec 32 := Scalar.remsi arg23 c2_i32_66
  let c0_i32_67 : BitVec 32 := 0#32
  let c0_i32_68 : BitVec 32 := 0#32
  ![v75.toNat, 0, 0]
def k0_off11 (k0_t2 : Fin k0_t2_loop.trips) : Fin 2 → Nat :=
  let c0_i32_69 : BitVec 32 := 0#32
  let c0_i32_25 : BitVec 32 := 0#32
  let c1_i32_26 : BitVec 32 := 1#32
  let arg23 : BitVec 32 := Scf.iv c0_i32_25 c1_i32_26 k0_t2
  let c512_i32 : BitVec 32 := 512#32
  let v76 : BitVec 32 := Scalar.muli arg23 c512_i32
  ![0, v76.toNat]
def k0_cond2 (k0_t2 : Fin k0_t2_loop.trips) : BitVec 1 :=
  let c0_i32_25 : BitVec 32 := 0#32
  let c1_i32_26 : BitVec 32 := 1#32
  let arg23 : BitVec 32 := Scf.iv c0_i32_25 c1_i32_26 k0_t2
  let c15_i32 : BitVec 32 := 15#32
  let v82 : BitVec 1 := Scalar.cmpi .slt arg23 c15_i32
  let v83 : BitVec 32 := Scalar.extui v82
  let c0_i32_70 : BitVec 32 := 0#32
  let v84 : BitVec 1 := Scalar.cmpi .ne v83 c0_i32_70
  v84

def k0_off12 (k0_t2 : Fin k0_t2_loop.trips) : Fin 1 → Nat :=
  let c0_i32_25 : BitVec 32 := 0#32
  let c1_i32_26 : BitVec 32 := 1#32
  let arg23 : BitVec 32 := Scf.iv c0_i32_25 c1_i32_26 k0_t2
  let c1_i32_90 : BitVec 32 := 1#32
  let v118 : BitVec 32 := Scalar.addi arg23 c1_i32_90
  let c2_i32_91 : BitVec 32 := 2#32
  let v119 : BitVec 32 := Scalar.remsi v118 c2_i32_91
  ![v119.toNat]
def k0_off13 (k0_t2 : Fin k0_t2_loop.trips) : Fin 3 → Nat :=
  let c0_i32_25 : BitVec 32 := 0#32
  let c1_i32_26 : BitVec 32 := 1#32
  let arg23 : BitVec 32 := Scf.iv c0_i32_25 c1_i32_26 k0_t2
  let c1_i32_90 : BitVec 32 := 1#32
  let v118 : BitVec 32 := Scalar.addi arg23 c1_i32_90
  let c2_i32_91 : BitVec 32 := 2#32
  let v119 : BitVec 32 := Scalar.remsi v118 c2_i32_91
  let c0_i32_93 : BitVec 32 := 0#32
  let c0_i32_94 : BitVec 32 := 0#32
  ![v119.toNat, 0, 0]
def k0_off14 (k0_t2 : Fin k0_t2_loop.trips) : Fin 2 → Nat :=
  let c0_i32_95 : BitVec 32 := 0#32
  let c0_i32_25 : BitVec 32 := 0#32
  let c1_i32_26 : BitVec 32 := 1#32
  let arg23 : BitVec 32 := Scf.iv c0_i32_25 c1_i32_26 k0_t2
  let c1_i32_89 : BitVec 32 := 1#32
  let v117 : BitVec 32 := Scalar.addi arg23 c1_i32_89
  let c512_i32_92 : BitVec 32 := 512#32
  let v120 : BitVec 32 := Scalar.muli v117 c512_i32_92
  ![0, v120.toNat]
def k0_off15 (k0_t2 : Fin k0_t2_loop.trips) : Fin 3 → Nat :=
  let c0_i32_25 : BitVec 32 := 0#32
  let c1_i32_26 : BitVec 32 := 1#32
  let arg23 : BitVec 32 := Scf.iv c0_i32_25 c1_i32_26 k0_t2
  let c2_i32_66 : BitVec 32 := 2#32
  let v75 : BitVec 32 := Scalar.remsi arg23 c2_i32_66
  let v85 : Index := Scalar.indexCast v75
  let c0_71 : Index := 0#32
  let c0_72 : Index := 0#32
  ![v85.toNat, 0, 0]
def k0_off16 (k0_t2 : Fin k0_t2_loop.trips) : Fin 2 → Nat :=
  let c0_i32_85 : BitVec 32 := 0#32
  let c0_i32_25 : BitVec 32 := 0#32
  let c1_i32_26 : BitVec 32 := 1#32
  let arg23 : BitVec 32 := Scf.iv c0_i32_25 c1_i32_26 k0_t2
  let c512_i32_84 : BitVec 32 := 512#32
  let v111 : BitVec 32 := Scalar.muli arg23 c512_i32_84
  ![0, v111.toNat]
def k0_cond3 (k0_t2 : Fin k0_t2_loop.trips) : BitVec 1 :=
  let c0_i32_25 : BitVec 32 := 0#32
  let c1_i32_26 : BitVec 32 := 1#32
  let arg23 : BitVec 32 := Scf.iv c0_i32_25 c1_i32_26 k0_t2
  let c8_i32_87 : BitVec 32 := 8#32
  let v114 : BitVec 1 := Scalar.cmpi .slt arg23 c8_i32_87
  let v115 : BitVec 32 := Scalar.extui v114
  let c0_i32_88 : BitVec 32 := 0#32
  let v116 : BitVec 1 := Scalar.cmpi .ne v115 c0_i32_88
  v116

def k0_off17 (k0_t2 : Fin k0_t2_loop.trips) : Fin 1 → Nat :=
  let c0_i32_25 : BitVec 32 := 0#32
  let c1_i32_26 : BitVec 32 := 1#32
  let arg23 : BitVec 32 := Scf.iv c0_i32_25 c1_i32_26 k0_t2
  ![arg23.toNat]
def k0_off18 (k0_t2 : Fin k0_t2_loop.trips) : Fin 2 → Nat :=
  let c0_i32_95 : BitVec 32 := 0#32
  let c0_i32_25 : BitVec 32 := 0#32
  let c1_i32_26 : BitVec 32 := 1#32
  let arg23 : BitVec 32 := Scf.iv c0_i32_25 c1_i32_26 k0_t2
  let c512_i32_90 : BitVec 32 := 512#32
  let v118 : BitVec 32 := Scalar.muli arg23 c512_i32_90
  ![0, v118.toNat]
def k0_dev2 (d0 : Dev nD) : Nat :=
  let c0_i32_92 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_91 : BitVec 32 := 8#32
  let v119 : BitVec 32 := Scalar.muli v9 c8_i32_91
  let v120 : BitVec 32 := Scalar.addi c0_i32_92 v119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v121 : BitVec 32 := Scalar.muli v5 c4_i32_93
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v123 : BitVec 32 := Scalar.muli v8 c1_i32_94
  let v124 : BitVec 32 := Scalar.addi v122 v123
  v124.toNat
def k0_dev3 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v42 : BitVec 32 := Scalar.muli v9 c8_i32_32
  let v43 : BitVec 32 := Scalar.addi c0_i32_33 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v44 : BitVec 32 := Scalar.muli v5 c4_i32_34
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v46 : BitVec 32 := Scalar.muli v8 c1_i32_35
  let v47 : BitVec 32 := Scalar.addi v45 v46
  v47.toNat
@[reducible] def k0_t3_loop : Scf.Loop 32 :=
  let c8_i32_36 : BitVec 32 := 8#32
  let c8_i32_37 : BitVec 32 := 8#32
  let v48 : BitVec 32 := Scalar.addi c8_i32_36 c8_i32_37
  let c1_i32_38 : BitVec 32 := 1#32
  ⟨c8_i32_36, v48, c1_i32_38⟩
def k0_off19 (k0_t3 : Fin k0_t3_loop.trips) : Fin 1 → Nat :=
  let c8_i32_36 : BitVec 32 := 8#32
  let c1_i32_38 : BitVec 32 := 1#32
  let arg23 : BitVec 32 := Scf.iv c8_i32_36 c1_i32_38 k0_t3
  ![arg23.toNat]
def k0_off20 (k0_t3 : Fin k0_t3_loop.trips) : Fin 2 → Nat :=
  let c0_i32_71 : BitVec 32 := 0#32
  let c8_i32_36 : BitVec 32 := 8#32
  let c1_i32_38 : BitVec 32 := 1#32
  let arg23 : BitVec 32 := Scf.iv c8_i32_36 c1_i32_38 k0_t3
  let c512_i32_66 : BitVec 32 := 512#32
  let v76 : BitVec 32 := Scalar.muli arg23 c512_i32_66
  ![0, v76.toNat]
def k0_dev4 (d0 : Dev nD) : Nat :=
  let c0_i32_68 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_67 : BitVec 32 := 8#32
  let v77 : BitVec 32 := Scalar.muli v9 c8_i32_67
  let v78 : BitVec 32 := Scalar.addi c0_i32_68 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v79 : BitVec 32 := Scalar.muli v5 c4_i32_69
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v81 : BitVec 32 := Scalar.muli v8 c1_i32_70
  let v82 : BitVec 32 := Scalar.addi v80 v81
  v82.toNat
@[reducible] def k0_t4_loop : Scf.Loop 32 :=
  let c0_i32_53 : BitVec 32 := 0#32
  let c16_i32_54 : BitVec 32 := 16#32
  let v72 : BitVec 32 := Scalar.addi c0_i32_53 c16_i32_54
  let c1_i32_55 : BitVec 32 := 1#32
  ⟨c0_i32_53, v72, c1_i32_55⟩
def k0_off21 (k0_t4 : Fin k0_t4_loop.trips) : Fin 2 → Nat :=
  let c0_i32_66 : BitVec 32 := 0#32
  let c0_i32_53 : BitVec 32 := 0#32
  let c1_i32_55 : BitVec 32 := 1#32
  let arg23 : BitVec 32 := Scf.iv c0_i32_53 c1_i32_55 k0_t4
  let c512_i32 : BitVec 32 := 512#32
  let v75 : BitVec 32 := Scalar.muli arg23 c512_i32
  ![0, v75.toNat]
def k0_off22 (d0 : Dev nD) (k0_t4 : Fin k0_t4_loop.trips) : Fin 2 → Nat :=
  let c0_i32_73 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v69 : BitVec 32 := Scalar.muli v2 c8192_i32
  let c0_i32_53 : BitVec 32 := 0#32
  let c1_i32_55 : BitVec 32 := 1#32
  let arg23 : BitVec 32 := Scf.iv c0_i32_53 c1_i32_55 k0_t4
  let c512_i32_72 : BitVec 32 := 512#32
  let v88 : BitVec 32 := Scalar.muli arg23 c512_i32_72
  let v89 : BitVec 32 := Scalar.addi v69 v88
  ![0, v89.toNat]
@[reducible] def k0_t5_loop : Scf.Loop 32 :=
  let c0_i32_57 : BitVec 32 := 0#32
  let c16_i32_58 : BitVec 32 := 16#32
  let v73 : BitVec 32 := Scalar.addi c0_i32_57 c16_i32_58
  let c1_i32_59 : BitVec 32 := 1#32
  ⟨c0_i32_57, v73, c1_i32_59⟩
def k0_off23 (k0_t5 : Fin k0_t5_loop.trips) : Fin 1 → Nat :=
  let c0_i32_57 : BitVec 32 := 0#32
  let c1_i32_59 : BitVec 32 := 1#32
  let arg23 : BitVec 32 := Scf.iv c0_i32_57 c1_i32_59 k0_t5
  ![arg23.toNat]
def k0_off24 (k0_t5 : Fin k0_t5_loop.trips) : Fin 2 → Nat :=
  let c0_i32_71 : BitVec 32 := 0#32
  let c0_i32_57 : BitVec 32 := 0#32
  let c1_i32_59 : BitVec 32 := 1#32
  let arg23 : BitVec 32 := Scf.iv c0_i32_57 c1_i32_59 k0_t5
  let c512_i32_66 : BitVec 32 := 512#32
  let v76 : BitVec 32 := Scalar.muli arg23 c512_i32_66
  ![0, v76.toNat]
def k0_off25 (d0 : Dev nD) (k0_t5 : Fin k0_t5_loop.trips) : Fin 2 → Nat :=
  let c0_i32_81 : BitVec 32 := 0#32
  let c1_i32_51 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v70 : BitVec 32 := Scalar.subi c1_i32_51 v2
  let c8192_i32_52 : BitVec 32 := 8192#32
  let v71 : BitVec 32 := Scalar.muli v70 c8192_i32_52
  let c0_i32_57 : BitVec 32 := 0#32
  let c1_i32_59 : BitVec 32 := 1#32
  let arg23 : BitVec 32 := Scf.iv c0_i32_57 c1_i32_59 k0_t5
  let c512_i32_80 : BitVec 32 := 512#32
  let v100 : BitVec 32 := Scalar.muli arg23 c512_i32_80
  let v101 : BitVec 32 := Scalar.addi v71 v100
  ![0, v101.toNat]
@[reducible] def k0_t6_loop : Scf.Loop 32 :=
  let c0_i32_61 : BitVec 32 := 0#32
  let c16_i32_62 : BitVec 32 := 16#32
  let v74 : BitVec 32 := Scalar.addi c0_i32_61 c16_i32_62
  let c1_i32_63 : BitVec 32 := 1#32
  ⟨c0_i32_61, v74, c1_i32_63⟩
def k0_off26 (k0_t6 : Fin k0_t6_loop.trips) : Fin 1 → Nat :=
  let c0_i32_61 : BitVec 32 := 0#32
  let c1_i32_63 : BitVec 32 := 1#32
  let arg23 : BitVec 32 := Scf.iv c0_i32_61 c1_i32_63 k0_t6
  ![arg23.toNat]
def k0_off27 (k0_t6 : Fin k0_t6_loop.trips) : Fin 2 → Nat :=
  let c0_i32_68 : BitVec 32 := 0#32
  let c0_i32_61 : BitVec 32 := 0#32
  let c1_i32_63 : BitVec 32 := 1#32
  let arg23 : BitVec 32 := Scf.iv c0_i32_61 c1_i32_63 k0_t6
  let c512_i32 : BitVec 32 := 512#32
  let v75 : BitVec 32 := Scalar.muli arg23 c512_i32
  ![0, v75.toNat]
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Geom.lean ====
/-
# Where a block of columns and a slot lie

The kernel moves every matrix in blocks of 512 columns, and stages two of its operands in two-slot buffers. This module
says what a transfer, a load or a store through such a block does to the contents of the whole buffer: `cut g k` is block
`k` of a matrix, `glue p` the matrix whose blocks are `p`, `colSet k` the elements of block `k`, `slotSet j` those of slot `j`.
-/
module

public import Idealize.ShloMosaic.Lib.Pipeline.Kit
public import Idealize.ShloMosaic.Lib.Pipeline.ValueKit.Geometry
public import Idealize.ShloMosaic.Lib.ViewIndex
public import Idealize.ShloMosaic.Lib.Pointwise.Index

@[expose] public section

noncomputable section

namespace Cert.Fused

open Idealize.ShloMosaic

/-- An `R × C` matrix's shape. -/
abbrev Mat (R C : ℕ) : Shape := ⟨2, ![R, C]⟩
/-- The shape of two slots of `R × 512`. -/
abbrev Slots (R : ℕ) : Shape := ⟨3, ![2, R, 512]⟩
/-- The shape of one of them. -/
abbrev Slot (R : ℕ) : Shape := ⟨3, ![1, R, 512]⟩

variable {α : Type} {R C : ℕ}

/-- Block `k` of 512 columns of a matrix. -/
def cut [NeZero C] (g : (Mat R C).Idx → α) (k : ℕ) : (Mat R 512).Idx → α :=
  fun i => g (ix2 (i 0) (Fin.ofNat C (512 * k + (i 1).val)))

/-- The matrix whose block `k` is `p k`. -/
def glue (p : ℕ → (Mat R 512).Idx → α) : (Mat R C).Idx → α :=
  fun i => p ((i 1).val / 512) (ix2 (i 0) ⟨(i 1).val % 512, Nat.mod_lt _ (by decide)⟩)

/-- The elements of block `k`. -/
def colSet (R C k : ℕ) : Finset (Mat R C).Idx := Finset.univ.filter fun i => (i 1).val / 512 = k

/-- The elements of slot `j`. -/
def slotSet (R j : ℕ) : Finset (Slots R).Idx := Finset.univ.filter fun i => (i 0).val = j

theorem mem_colSet {k : ℕ} {i : (Mat R C).Idx} : i ∈ colSet R C k ↔ (i 1).val / 512 = k := by
  unfold colSet; rw [Finset.mem_filter]; exact and_iff_right (Finset.mem_univ _)

theorem mem_slotSet {j : ℕ} {i : (Slots R).Idx} : i ∈ slotSet R j ↔ (i 0).val = j := by
  unfold slotSet; rw [Finset.mem_filter]; exact and_iff_right (Finset.mem_univ _)

theorem colSet_disjoint {k l : ℕ} (h : k ≠ l) : Disjoint (colSet R C k) (colSet R C l) :=
  Finset.disjoint_left.mpr fun i hi hj => h ((mem_colSet.mp hi).symm.trans (mem_colSet.mp hj))

theorem slotSet_disjoint {k l : ℕ} (h : k ≠ l) : Disjoint (slotSet R k) (slotSet R l) :=
  Finset.disjoint_left.mpr fun i hi hj => h ((mem_slotSet.mp hi).symm.trans (mem_slotSet.mp hj))

/-- The two slots are the buffer. -/
theorem slotSet_union : slotSet R 0 ∪ slotSet R 1 = Finset.univ := by
  ext i
  have h : (i 0).val < 2 := (i 0).isLt
  simp only [Finset.mem_union, mem_slotSet, Finset.mem_univ, iff_true]
  omega

theorem slotSet_compl : Finset.univ \ slotSet R 0 = slotSet R 1 := by
  ext i
  have h : (i 0).val < 2 := (i 0).isLt
  simp only [Finset.mem_sdiff, mem_slotSet, Finset.mem_univ, true_and]
  omega

/-- `n` blocks are the whole of `512 * n` columns. -/
theorem colSet_biUnion (n : ℕ) (h : C = 512 * n) :
    (Finset.univ : Finset (Fin n)).biUnion (fun k => colSet R C k.val) = Finset.univ := by
  ext i
  have hi : (i 1).val < C := (i 1).isLt
  simp only [Finset.mem_biUnion, mem_colSet, Finset.mem_univ, true_and, iff_true]
  exact ⟨⟨(i 1).val / 512, by omega⟩, rfl⟩

section Cut
variable [NeZero C]

theorem cut_glue (p : ℕ → (Mat R 512).Idx → α) (k : ℕ) (hk : 512 * k + 512 ≤ C) : cut (glue p : (Mat R C).Idx → α) k = p k := by
  funext i
  have hi : (i 1).val < 512 := (i 1).isLt
  unfold cut glue
  have hv : (ix2 (n0 := R) (n1 := C) (i 0) (Fin.ofNat C (512 * k + (i 1).val)) 1).val = 512 * k + (i 1).val := by
    show (512 * k + (i 1).val) % C = _
    exact Nat.mod_eq_of_lt (by omega)
  have h1 : (ix2 (n0 := R) (n1 := C) (i 0) (Fin.ofNat C (512 * k + (i 1).val)) 1).val / 512 = k := by rw [hv]; omega
  have h2 : (ix2 (n0 := R) (n1 := C) (i 0) (Fin.ofNat C (512 * k + (i 1).val)) 1).val % 512 = (i 1).val := by rw [hv]; omega
  rw [h1]
  refine congrArg (p k) ?_
  rw [eq_ix2 i]
  exact congrArg (ix2 (i 0)) (Fin.ext h2)

/-- Contents with the same block `k` agree on its elements. -/
theorem agree_of_cut {f g : (Mat R C).Idx → α} {k : ℕ} (h : cut f k = cut g k) : ∀ i ∈ colSet R C k, f i = g i := by
  intro i hi
  have hi := mem_colSet.mp hi
  have hC : (i 1).val < C := (i 1).isLt
  have e := congrFun h (ix2 (i 0) ⟨(i 1).val % 512, Nat.mod_lt _ (by decide)⟩)
  have hx : ix2 (n0 := R) (n1 := C) (i 0) (Fin.ofNat C (512 * k + (i 1).val % 512)) = i := by
    rw [eq_ix2 i]
    refine congrArg (ix2 (i 0)) (Fin.ext ?_)
    show (512 * k + (i 1).val % 512) % C = (i 1).val
    rw [← hi, Nat.div_add_mod]; exact Nat.mod_eq_of_lt hC
  have e' : f (ix2 (n0 := R) (n1 := C) (i 0) (Fin.ofNat C (512 * k + (i 1).val % 512)))
      = g (ix2 (n0 := R) (n1 := C) (i 0) (Fin.ofNat C (512 * k + (i 1).val % 512))) := e
  rw [hx] at e'
  exact e'

theorem cut_congr {f g : (Mat R C).Idx → α} {k : ℕ} (hk : 512 * k + 512 ≤ C) (h : ∀ i ∈ colSet R C k, f i = g i) : cut f k = cut g k := by
  funext i
  have hi : (i 1).val < 512 := (i 1).isLt
  refine h _ (mem_colSet.mpr ?_)
  show ((512 * k + (i 1).val) % C) / 512 = k
  rw [Nat.mod_eq_of_lt (by omega)]; omega

end Cut

/-! ## Through a slice of a whole buffer -/

section Rect
variable {o : Fin 2 → ℕ} {k : ℕ}

/-- The elements of the slice at column `512 * k`. -/
theorem rect_set (ho : o = ![0, 512 * k]) (inb) : (Rect.unit (s := Mat R C) o ![R, 512] inb).set = colSet R C k := by
  subst ho
  ext i
  have h0 : (i 0).val < R := (i 0).isLt
  rw [Rect.mem_set_unit, mem_colSet, Fin.forall_fin_two]
  show (0 ≤ (i 0).val ∧ (i 0).val < 0 + R) ∧ (512 * k ≤ (i 1).val ∧ (i 1).val < 512 * k + 512) ↔ _
  omega

/-- An index of the slice, placed. -/
theorem rect_emb [NeZero C] (ho : o = ![0, 512 * k]) (inb) (g : (Mat R C).Idx → α) :
    (fun x => g ((Rect.unit (s := Mat R C) o ![R, 512] inb).emb x)) = cut g k := by
  subst ho
  funext x
  unfold cut
  refine congrArg g (funext fun a => Fin.ext ?_)
  have hb : 512 * k + (x 1).val < C := by
    have h1 : (![0, 512 * k] : Fin 2 → ℕ) 1 + (![R, 512] : Fin 2 → ℕ) 1 ≤ (Mat R C).size 1 := inb 1
    have h2 : (x 1).val < 512 := (x 1).isLt
    have h3 : 512 * k + 512 ≤ C := h1
    omega
  rw [ValueKit.rect_emb_unit_val]
  match a with
  | ⟨0, _⟩ => show 0 + (x 0).val = (x 0).val; omega
  | ⟨1, _⟩ => show 512 * k + (x 1).val = (512 * k + (x 1).val) % C; rw [Nat.mod_eq_of_lt hb]

end Rect

/-! ## Through a slot -/

/-- What slot `j` of a two-slot buffer holds, as a load of the slot reads it. -/
def slotRead (f : (Slots R).Idx → α) (j : ℕ) : (Slot R).Idx → α :=
  fun y => f (ix3 (Fin.ofNat 2 j) (y 1) (y 2))

/-- A matrix as a slot of one. -/
def lift {s s' : Shape} (h : s'.numel = s.numel) (w : s'.Idx → α) : s.Idx → α := fun y => w ((Shape.reshapeEquiv h).symm y)

section SlotRect
variable {o : Fin 3 → ℕ} {j : ℕ}

theorem slot_set (ho : o = ![j, 0, 0]) (inb) : (Rect.unit (s := Slots R) o ![1, R, 512] inb).set = slotSet R j := by
  subst ho
  ext i
  have h1 : (i 1).val < R := (i 1).isLt
  have h2 : (i 2).val < 512 := (i 2).isLt
  rw [Rect.mem_set_unit, mem_slotSet]
  constructor
  · intro h
    have h0 : j ≤ (i 0).val ∧ (i 0).val < j + 1 := h 0
    omega
  · intro h a
    match a with
    | ⟨0, _⟩ => show j ≤ (i 0).val ∧ (i 0).val < j + 1; omega
    | ⟨1, _⟩ => show 0 ≤ (i 1).val ∧ (i 1).val < 0 + R; omega
    | ⟨2, _⟩ => show 0 ≤ (i 2).val ∧ (i 2).val < 0 + 512; omega

theorem slot_emb (ho : o = ![j, 0, 0]) (inb) (g : (Slots R).Idx → α) :
    (fun x => g ((Rect.unit (s := Slots R) o ![1, R, 512] inb).emb x)) = slotRead g j := by
  subst ho
  funext x
  unfold slotRead
  refine congrArg g (funext fun a => Fin.ext ?_)
  have hj : j + 1 ≤ 2 := inb 0
  have hx : (x 0).val < 1 := (x 0).isLt
  rw [ValueKit.rect_emb_unit_val]
  match a with
  | ⟨0, _⟩ => show j + (x 0).val = j % 2; omega
  | ⟨1, _⟩ => show 0 + (x 1).val = (x 1).val; omega
  | ⟨2, _⟩ => show 0 + (x 2).val = (x 2).val; omega

end SlotRect

/-- A view re-indexed reads what the view does, re-indexed: the other way round. -/
theorem read_of_reshape {sig : RefSig} {κ : Kind} {sp : Space} {s s' : Shape} {e : EltTy} {Val : EltTy → Type}
    (v : View sig κ sp s e) (h : s'.numel = s.numel) (f : v.ty.Contents Val) :
    v.read Val f = lift h ((v.reshape s' h).read Val f) := by
  funext y
  unfold lift
  show _ = v.read Val f (Shape.reshapeEquiv h ((Shape.reshapeEquiv h).symm y))
  rw [Equiv.apply_symm_apply]

end Cert.Fused

end
-- ==== Proof.Contents.lean ====
/-
# What the buffers of one device come to hold

As functions of the device's two arguments `x` and `w`, over any reading `F` of the floats: the narrowed matrix `x`, block by
block; the logits' blocks; the running row maximum and row sum after `n` blocks; the statistics buffer a device sends its
peer; and a block of the result from a device's own statistics, its peer's, and a block of logits.
-/
module

public import proofs.«01_k».proof.Proof.Geom
public import proofs.«01_k».proof.Proof.Gen.KernelIdeal
public import proofs.«01_k».proof.Proof.Gen.KernelIdeal.Skeleton

@[expose] public section

noncomputable section

namespace Cert.Fused

open Idealize.ShloMosaic Cert.KernelIdeal Cert.KernelIdeal.Gen

variable {F : FTy → Type} [FloatOps F]

/-- Contents of a buffer of shape `s` and element type `e`. -/
abbrev Arr (F : FTy → Type) (s : Shape) (e : EltTy) : Type := s.Idx → Elt F e

instance : NeZero 4096 := ⟨by decide⟩
instance : NeZero 8192 := ⟨by decide⟩
instance : NeZero 16384 := ⟨by decide⟩

theorem numel_x : S2048x512.numel = S1x2048x512.numel := squeezes_S1x2048x512_S2048x512.numel_eq
theorem numel_w : S4096x512.numel = S1x4096x512.numel := squeezes_S1x4096x512_S4096x512.numel_eq

section Device
variable (x : Arr F S2048x4096 .f32) (w : Arr F S4096x8192 .f32)

/-- Block `k` of `x` as staged in a slot, -/
def xSlot (k : ℕ) : Arr F S1x2048x512 .f32 := lift numel_x (cut x k)
/-- block `k` of `x` narrowed, -/
def xbBlk (k : ℕ) : Arr F S2048x512 .bf16 := k0_pay11 (xSlot x k)
/-- and the whole of it. -/
def xb : Arr F S2048x4096 .bf16 := glue (xbBlk x)

/-- Block `k` of `w` as staged in a slot, -/
def wSlot (k : ℕ) : Arr F S1x4096x512 .f32 := lift numel_w (cut w k)
/-- and narrowed. -/
def wbBlk (k : ℕ) : Arr F S4096x512 .bf16 := k0_pay6 (wSlot w k)

/-- Block `k` of the device's logits, narrowed, -/
def lbBlk (k : ℕ) : Arr F S2048x512 .bf16 := k0_pay10 (xb x) (wbBlk w k)
/-- and all of them. -/
def lb : Arr F S2048x8192 .bf16 := glue (lbBlk x w)

/-- The running row maximum and row sum after `n` blocks. -/
def stat : ℕ → FVec F S2048x1 .f32 × FVec F S2048x1 .f32
  | 0 => (k0_pay12, k0_pay13)
  | n + 1 => (k0_pay8 (stat n).1 (xb x) (wbBlk w n), k0_pay9 (stat n).1 (stat n).2 (xb x) (wbBlk w n))

/-- The statistics buffer: the maximum in slot 0, the sum in slot 1, each spread over 128 lanes. -/
def statBuf : Arr F S2x2048x128 .f32 := fun i =>
  if (i 0).val = 0 then k0_pay14 (stat x w 16).1 (ix3 (n0 := 1) (n1 := 2048) (n2 := 128) 0 (i 1) (i 2))
  else k0_pay15 (stat x w 16).2 (ix3 (n0 := 1) (n1 := 2048) (n2 := 128) 0 (i 1) (i 2))

/-- Lane 0 of slot 0, as the peer reads it, -/
def maxCol : Arr F S1x2048x1 .f32 := fun y => k0_pay14 (stat x w 16).1 (ix3 (n0 := 1) (n1 := 2048) (n2 := 128) 0 (y 1) 0)
/-- and of slot 1. -/
def sumCol : Arr F S1x2048x1 .f32 := fun y => k0_pay15 (stat x w 16).2 (ix3 (n0 := 1) (n1 := 2048) (n2 := 128) 0 (y 1) 0)

end Device

section Pair
variable (x : Arr F S2048x4096 .f32) (w : Arr F S4096x8192 .f32) (x' : Arr F S2048x4096 .f32) (w' : Arr F S4096x8192 .f32)

/-- Block `k` of the result over the device's own logits, -/
def ownBlk (k : ℕ) : Arr F S2048x512 .f32 :=
  k0_pay4 (stat x w 16).1 (stat x w 16).2 (maxCol x' w') (sumCol x' w') (lbBlk x w k)
/-- and over its peer's. -/
def peerBlk (k : ℕ) : Arr F S2048x512 .f32 :=
  k0_pay5 (stat x w 16).1 (stat x w 16).2 (maxCol x' w') (sumCol x' w') (lbBlk x' w' k)

/-- Block `q` of the result of a device whose half of the columns is the `h`-th. -/
def outBlk (h q : ℕ) : Arr F S2048x512 .f32 :=
  if q / 16 = h then ownBlk x w x' w' (q % 16) else peerBlk x w x' w' (q % 16)
/-- The result. -/
def out (h : ℕ) : Arr F S2048x16384 .f32 := glue (outBlk x w x' w' h)

end Pair

end Cert.Fused

end
-- ==== Proof.Protocol.lean ====
/-
# The protocol between a device and its peer

Device `c`'s peer `c + 8 mod 16` is its neighbour along the mesh axis the columns of `W` are dealt over. The cells: `c`'s
barrier, its sixteen send and sixteen receive semaphores (one per block of logits), and the send and receive semaphore of the
statistics. Each has one duty, in round 0. The peer's barrier signal hands over the peer's two landing buffers; a landing
hands over the landed block, with its contents; a completed send gives back what was lent to it. A block of logits is lent
at half share, since the device goes on reading it while it is sent.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's copy, the protocol's, and the counters of the local transfers -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch. -/
def s₀ : MemSt nD τ sig (Elt F) := ⟨m, fun _ => 0, ρ⟩

/-! ## The peer, the semaphores and the cells -/

set_option backward.proofsInPublic true in
/-- The peer of device `c`. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide
def swap : Dev nD ≃ Dev nD := ⟨peer, peer, peer_peer, peer_peer⟩

set_option backward.proofsInPublic true in
/-- The DMA semaphore numbered `j`. -/
abbrev dsem (j : ℕ) (h : j < 41 := by omega) : DmaSem sig := ⟨j, h⟩
set_option backward.proofsInPublic true in
abbrev sendSem (k : Fin 16) : DmaSem sig := dsem k.val (by have := k.isLt; omega)
set_option backward.proofsInPublic true in
abbrev recvSem (k : Fin 16) : DmaSem sig := dsem (16 + k.val) (by have := k.isLt; omega)
abbrev ssSem : DmaSem sig := dsem 32
abbrev srSem : DmaSem sig := dsem 33
set_option backward.proofsInPublic true in
abbrev xSem (j : ℕ) : DmaSem sig := dsem (34 + j % 2) (by omega)
set_option backward.proofsInPublic true in
abbrev wSem (j : ℕ) : DmaSem sig := dsem (36 + j % 2) (by omega)
abbrev lbSem : DmaSem sig := dsem 38
abbrev inSem : DmaSem sig := dsem 39
abbrev outSem : DmaSem sig := dsem 40
/-- The runtime's barrier semaphore. -/
abbrev barS : Sem sig := (SemArray.scalar (sig.barrier 0 rfl) : Sems sig S_).sem

abbrev dcell (c : Dev nD) (j : DmaSem sig) : GSem nD τ sig := ((c : Thread nD τ), .dma j)
abbrev barCell (c : Dev nD) : GSem nD τ sig := ((c : Thread nD τ), .reg barS)
abbrev sendCell (c : Dev nD) (k : Fin 16) : GSem nD τ sig := dcell c (sendSem k)
abbrev recvCell (c : Dev nD) (k : Fin 16) : GSem nD τ sig := dcell c (recvSem k)
abbrev ssCell (c : Dev nD) : GSem nD τ sig := dcell c ssSem
abbrev srCell (c : Dev nD) : GSem nD τ sig := dcell c srSem

/-! ## Contents and ownership on a device -/

section On
variable (c : Dev nD)
/-- Device `c`'s two arguments, -/
def xA : Arr F S2048x4096 .f32 := m ((c : Thread nD τ).loc main_arg0)
def wA : Arr F S4096x8192 .f32 := m ((c : Thread nD τ).loc main_arg1)
/-- its logits, -/
def lbA : Arr F S2048x8192 .bf16 := lb (xA m c) (wA m c)
/-- its statistics, -/
def stA : Arr F S2x2048x128 .f32 := statBuf (xA m c) (wA m c)
/-- its result. -/
def outA : Arr F S2048x16384 .f32 := out (xA m c) (wA m c) (xA m (peer c)) (wA m (peer c)) (c.val / 8)

variable (k : ℕ) (q : PosShare TreeShare)
/-- Block `k` of the device's logits in HBM, -/
def lbPts (f : Arr F S2048x8192 .bf16) : sProp 𝕄 := (c : Thread nD τ).loc main_v1_1 ↦[colSet 2048 8192 k]{q} f
/-- block `k` of the landing buffer for its peer's, -/
def pbPts (f : Arr F S2048x8192 .bf16) : sProp 𝕄 := (c : Thread nD τ).loc main_v1_2 ↦[colSet 2048 8192 k]{fullShare} f
/-- the statistics' source -/
def ssPts (f : Arr F S2x2048x128 .f32) : sProp 𝕄 := (c : Thread nD τ).loc cc0_scratch7 ↦{fullShare} f
/-- and landing buffers. -/
def srPts (f : Arr F S2x2048x128 .f32) : sProp 𝕄 := (c : Thread nD τ).loc cc0_scratch8 ↦{fullShare} f
end On

/-- What a transfer of a block of logits counts, -/
abbrev N : ℕ := (((Memref.whole main_v1_2 : Memref sig .tc .hbm S2048x8192 .bf16).slice
  (Rect.unit (s := S2048x8192) ![0, 0] S2048x512.size (by decide)) (fun _ => rfl) : Memref sig .tc .hbm S2048x512 .bf16)).view.dmaCredit
/-- and one of the statistics. -/
abbrev Ns : ℕ := (Memref.whole cc0_scratch8 : Memref sig .tc .vmem S2x2048x128 .f32).view.dmaCredit
theorem N_pos : 0 < N := View.dmaCredit_pos _ (by decide)
theorem Ns_pos : 0 < Ns := View.dmaCredit_pos _ (by decide)

/-! ## The schedule -/

/-- What the peer's signal hands device `c`: the peer's landing buffers. -/
def barPay (c : Dev nD) : sProp 𝕄 :=
  iprop((bigSep (Finset.univ : Finset (Fin 16)) fun k => iprop(∃ f, pbPts (peer c) k.val f)) ∗ ∃ f, srPts (peer c) f)
/-- A completed send gives the half share back; -/
def sendPay (c : Dev nD) (k : ℕ) : sProp 𝕄 := lbPts c k fullShare.left (lbA m c)
/-- a landing gives the block. -/
def recvPay (c : Dev nD) (k : ℕ) : sProp 𝕄 := pbPts c k (lbA m (peer c))

/-- The payload of the cell of device `c` at semaphore `s`. -/
def pay (c : Dev nD) : SemLoc sig → sProp 𝕄
  | .reg _ => barPay c
  | .dma j => if j.val < 16 then sendPay m c j.val else if j.val < 32 then recvPay m c (j.val - 16)
      else if j.val = 32 then ssPts c (stA m c) else srPts c (stA m (peer c))

/-- Its amount. -/
def amt : SemLoc sig → ℕ
  | .reg _ => 1
  | .dma j => if j.val < 32 then N else Ns

/-- The semaphores of the protocol. -/
def IsCell : SemLoc sig → Prop
  | .reg s => s = barS
  | .dma j => j.val < 34

instance (s : SemLoc sig) : Decidable (IsCell s) := by cases s <;> (unfold IsCell; infer_instance)

def sched : Rounds.Schedule (GSem nD τ sig) Unit 𝕄 where
  duties g r := if r = 0 ∧ g.1.2 = .tc ∧ IsCell g.2 then {()} else ∅
  unitless _ := False
  amount g _ _ := amt g.2
  payload g _ _ := pay m g.1.1 g.2
  amount_pos g _ _ _ := by
    show 0 < amt g.2
    unfold amt
    split
    · exact Nat.one_pos
    · split
      · exact N_pos
      · exact Ns_pos

section Stor
variable (c : Dev nD) (k : ℕ) (q : PosShare TreeShare)
omit [FloatOps F] in
instance lbPts_storable (f) : BI.Storable (upEmb : UEmb _ 𝕄) (lbPts (F := F) c k q f) := by unfold lbPts; infer_instance
omit [FloatOps F] in
instance pbPts_storable (f) : BI.Storable (upEmb : UEmb _ 𝕄) (pbPts (F := F) c k f) := by unfold pbPts; infer_instance
omit [FloatOps F] in
instance ssPts_storable (f) : BI.Storable (upEmb : UEmb _ 𝕄) (ssPts (F := F) c f) := by unfold ssPts; infer_instance
omit [FloatOps F] in
instance srPts_storable (f) : BI.Storable (upEmb : UEmb _ 𝕄) (srPts (F := F) c f) := by unfold srPts; infer_instance
end Stor

instance sched_payload_storable (g : GSem nD τ sig) (r : ℕ) (d : Unit) :
    BI.Storable (upEmb : UEmb _ 𝕄) ((sched (F := F) m).payload g r d) := by
  show BI.Storable upEmb (pay m g.1.1 g.2)
  unfold pay barPay sendPay recvPay
  (repeat' split) <;> infer_instance

section Tables
variable (c : Dev nD) (s : SemLoc sig) (hs : IsCell s)

theorem duties_cell (hs : IsCell s) : (sched (F := F) m).duties ((c : Thread nD τ), s) 0 = {()} := by dsimp only [sched]; exact if_pos ⟨rfl, rfl, hs⟩
theorem duties_later (g : GSem nD τ sig) : ∀ r, 1 ≤ r → (sched (F := F) m).duties g r = ∅ :=
  fun r hr => by dsimp only [sched]; rw [if_neg fun h => by omega]
theorem expect_cell (hs : IsCell s) : (sched (F := F) m).expect ((c : Thread nD τ), s) 0 = amt s := by
  unfold Schedule.expect Schedule.amountOf; rw [duties_cell m c s hs, Finset.sum_singleton]; rfl
theorem rest_cell (hs : IsCell s) :
    bigSep ((sched (F := F) m).duties ((c : Thread nD τ), s) 0 \ ∅) (fun d => (sched (F := F) m).payload ((c : Thread nD τ), s) 0 d) = pay m c s := by
  rw [Finset.sdiff_empty, duties_cell m c s hs, bigSep_singleton]; rfl
theorem mem_duties (hs : IsCell s) : () ∈ (sched (F := F) m).duties ((c : Thread nD τ), s) 0 := by
  rw [duties_cell m c s hs]; exact Finset.mem_singleton_self _
end Tables

section Pays
variable (c : Dev nD) (k : Fin 16)
theorem pay_bar : pay (F := F) m c (.reg barS) = barPay c := rfl
theorem pay_send : pay (F := F) m c (.dma (sendSem k)) = sendPay m c k.val := by unfold pay; exact if_pos k.isLt
theorem pay_recv : pay (F := F) m c (.dma (recvSem k)) = recvPay m c k.val := by
  have h := k.isLt
  unfold pay
  simp only [dsem]
  rw [if_neg (by omega), if_pos (by omega)]
  congr 1; omega
theorem pay_ss : pay (F := F) m c (.dma ssSem) = ssPts c (stA m c) := rfl
theorem pay_sr : pay (F := F) m c (.dma srSem) = srPts c (stA m (peer c)) := rfl
theorem amt_send : amt (.dma (sendSem k)) = N := by
  have h := k.isLt
  unfold amt
  exact if_pos (show k.val < 32 by omega)
theorem amt_recv : amt (.dma (recvSem k)) = N := by
  have h := k.isLt
  unfold amt
  exact if_pos (show 16 + k.val < 32 by omega)
theorem amt_ss : amt (.dma ssSem) = Ns := rfl
theorem amt_sr : amt (.dma srSem) = Ns := rfl
theorem isCell_bar : IsCell (.reg barS) := rfl
theorem isCell_send : IsCell (.dma (sendSem k)) := by have := k.isLt; show k.val < 34; omega
theorem isCell_recv : IsCell (.dma (recvSem k)) := by have := k.isLt; show 16 + k.val < 34; omega
theorem isCell_ss : IsCell (.dma ssSem) := by show 32 < 34; omega
theorem isCell_sr : IsCell (.dma srSem) := by show 33 < 34; omega
end Pays

/-! ## What a device owes its peer; the levels -/

/-- The landings of blocks `n, …, 15`. -/
def Orem (c : Dev nD) (n : ℕ) : CellTallies nD τ sig Unit :=
  ∑ k ∈ (Finset.univ : Finset (Fin 16)).filter (fun k => n ≤ k.val), tallyAt (recvCell (peer c) k) () N
/-- The statistics' landing. -/
def Ost (c : Dev nD) : CellTallies nD τ sig Unit := tallyAt (srCell (peer c)) () Ns
def O₁ (c : Dev nD) : CellTallies nD τ sig Unit := Orem c 0 + Ost c
def O₀ (c : Dev nD) : CellTallies nD τ sig Unit := O₁ c + tallyAt (barCell (peer c)) () 1

theorem Orem_step (c : Dev nD) (k : Fin 16) : Orem c k.val = Orem c (k.val + 1) + tallyAt (recvCell (peer c) k) () N := by
  unfold Orem
  rw [show (Finset.univ : Finset (Fin 16)).filter (fun j => k.val ≤ j.val)
      = insert k ((Finset.univ : Finset (Fin 16)).filter (fun j => k.val + 1 ≤ j.val)) by
    ext j
    simp only [Finset.mem_filter, Finset.mem_univ, true_and, Finset.mem_insert, Fin.ext_iff]
    omega]
  rw [Finset.sum_insert (by simp), add_comm]

theorem Orem_end (c : Dev nD) : Orem c 16 = 0 := by
  unfold Orem
  rw [show (Finset.univ : Finset (Fin 16)).filter (fun j => 16 ≤ j.val) = ∅ by
    ext j; simp [Nat.not_le.mpr j.isLt]]
  rfl

def L (g : GSem nD τ sig) : Finset Unit := if g.1.2 = .tc then {()} else ∅
/-- The level of a semaphore: the barrier's 1, a landing's 2, everything else 0. -/
def lvS : SemLoc sig → ℕ
  | .reg _ => 1
  | .dma j => if 16 ≤ j.val ∧ j.val < 32 ∨ j.val = 33 then 2 else 0
def lv (g : GSem nD τ sig) (_ : Unit) : ℕ := lvS g.2

theorem L_of_ne (g : GSem nD τ sig) (h : g.1.2 ≠ .tc) : L g = ∅ := if_neg h
theorem L_tc (c : Dev nD) (s : SemLoc sig) : L ((c : Thread nD τ), s) = {()} := if_pos rfl
theorem lvS_recv (k : Fin 16) : lvS (.dma (recvSem k)) = 2 := by
  have := k.isLt
  unfold lvS; exact if_pos (Or.inl ⟨show 16 ≤ 16 + k.val by omega, show 16 + k.val < 32 by omega⟩)
theorem lvS_sr : lvS (.dma srSem) = 2 := by unfold lvS; exact if_pos (Or.inr rfl)

/-- Only landings are owed. -/
def High (O : CellTallies nD τ sig Unit) : Prop := ∀ g u, 0 < O g u → ∃ (c : Dev nD) (s : SemLoc sig), g = ((c : Thread nD τ), s) ∧ 2 ≤ lvS s

theorem High.zero : High 0 := fun g u h => absurd h (Nat.lt_irrefl 0)
theorem High.add {O P : CellTallies nD τ sig Unit} (hO : High O) (hP : High P) : High (O + P) := fun g u h => by
  rw [Pi.add_apply, Finsupp.add_apply] at h
  rcases Nat.eq_zero_or_pos (O g u) with h0 | h0
  · exact hP g u (by omega)
  · exact hO g u h0
theorem High.tally (c : Dev nD) (s : SemLoc sig) (n : ℕ) (hs : 2 ≤ lvS s) : High (tallyAt ((c : Thread nD τ), s) () n) := fun g u h => by
  rw [tallyAt_apply] at h
  by_cases hg : g = ((c : Thread nD τ), s) ∧ u = ()
  · exact ⟨c, s, hg.1, hs⟩
  · rw [if_neg hg] at h; exact absurd h (Nat.lt_irrefl 0)
theorem High.Ost (c : Dev nD) : High (Ost c) := High.tally _ _ _ lvS_sr.ge
theorem High.Orem (c : Dev nD) (n : ℕ) : High (Orem c n) := by
  unfold Cert.Fused.Orem
  induction (Finset.univ : Finset (Fin 16)).filter (fun k => n ≤ k.val) using Finset.induction_on with
  | empty => rw [Finset.sum_empty]; exact High.zero
  | insert a s ha ih => rw [Finset.sum_insert ha]; exact (High.tally _ _ _ (lvS_recv a).ge).add ih

omit [FloatOps F] in
/-- A device may wait at a cell below level 2 while it owes landings only. -/
theorem mayWait_low (c : Dev nD) (s : SemLoc sig) (hs : lvS s < 2) (O : CellTallies nD τ sig Unit) (hO : High O) :
    (levAts L lv : sProp 𝕄) ⊢ MayWait (c : Thread nD τ) s () O :=
  MayOwe.of_cut (L := L) (lev := lv) 1 (fun p hp => by rw [Finset.mem_singleton.mp hp, L_tc]; exact Finset.mem_singleton_self _)
    (fun g u hg => by obtain ⟨c', s', rfl, h⟩ := hO g u hg; rw [L_tc]; exact Finset.mem_singleton_self _)
    (fun p hp => by rw [Finset.mem_singleton.mp hp]; show lvS s ≤ 1; omega)
    (fun g u hg => by obtain ⟨c', s', rfl, h⟩ := hO g u hg; show 1 < lvS s'; omega)

end Cert.Fused

end
-- ==== Proof.Steps.lean ====
/-
# The steps of the kernel's body

One lemma per kind of step: a local transfer issued, awaited, or both at once; the transfer of a block of logits, or of the
statistics, to the peer; the wait at a cell of the protocol, after which that cell is closed; a load and a store of a whole
buffer. Each is stated for any memrefs whose elements are the given ones, so that a loop's body applies it at a symbolic trip.
-/
module

public import proofs.«01_k».proof.Proof.Protocol

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c`'s core ends in `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def Owes (c : Dev nD) (O : CellTallies nD τ sig Unit) : sProp 𝕄 := iprop(∃ W, owes (c : Thread nD τ) O W)

/-- Nothing is left to run. -/
theorem done (c : Dev nD) {α : Type} {a : α} {Q : α → sProp 𝕄} : Q a ⊢ Run c (.ret a) Q := by
  unfold Run
  rw [wp_ret]
  iintro H
  imodintro
  iexact H

/-! ## Local transfers -/

section Local
variable (c : Dev nD) {sp sp' : Space} {s : Shape} {e : EltTy}

/-- What a local transfer delivers: the destination reading what the source read and otherwise as it was; the source back. -/
def Landed (src : Memref sig ((c : Thread nD τ).2.kind) sp s e) (dst : Memref sig ((c : Thread nD τ).2.kind) sp' s e) (Ss : Finset (Idx (src.view.loc (c : Thread nD τ))))
    (Sd : Finset (Idx (dst.view.loc (c : Thread nD τ)))) (q : PosShare TreeShare)
    (fs : Buf (Elt F) (src.view.loc (c : Thread nD τ))) (fd : Buf (Elt F) (dst.view.loc (c : Thread nD τ))) : sProp 𝕄 :=
  iprop((∃ f, (dst.view.loc (c : Thread nD τ) ↦[Sd]{fullShare} f)
      ∗ ⌜dst.view.read (Elt F) f = src.view.read (Elt F) fs ∧ ∀ i, i ∉ dst.view.set → f i = fd i⌝)
    ∗ (src.view.loc (c : Thread nD τ) ↦[Ss]{q} fs))

variable (src : Memref sig ((c : Thread nD τ).2.kind) sp s e) (dst : Memref sig ((c : Thread nD τ).2.kind) sp' s e) {sm : DmaSem sig}
  {hsrc : src.view.WordExact} {hdst : dst.view.WordExact} {hsem : DmaTarget.Typed (nD := nD) sp (.dma sm) (.here dst)}

/-- A local transfer is issued. -/
theorem issue {α : Type} {Q : α → sProp 𝕄} {k : PUnit → Prog (TpuEff nD τ sig (Elt F) Λ₀ .tc) α} {Ss : Finset (Idx (src.view.loc (c : Thread nD τ)))}
    {Sd : Finset (Idx (dst.view.loc (c : Thread nD τ)))} {q : PosShare TreeShare}
    {fs : Buf (Elt F) (src.view.loc (c : Thread nD τ))} {fd : Buf (Elt F) (dst.view.loc (c : Thread nD τ))}
    (sm₀ : DmaSem sig) (hs : sm = sm₀) (n : ℕ) (hn : dst.view.dmaCredit = n) (hn0 : 0 < n) (hS : src.view.set = Ss) (hD : dst.view.set ⊆ Sd) :
    iprop((src.view.loc (c : Thread nD τ) ↦[Ss]{q} fs) ∗ (dst.view.loc (c : Thread nD τ) ↦[Sd]{fullShare} fd) ∗ semVal (dcell c sm₀) 0)
      ⊢ iprop((Transfers.Flight EC (c : Thread nD τ) (.dma sm₀) () n (Landed c src dst Ss Sd q fs fd) -∗ Run c (k ⟨⟩) Q)
        -∗ Run c (.op (.enqueueDma src (.here dst) (.dma sm) hsrc hdst hsem) k) Q) := by
  subst hS hs
  iintro ⟨Hs, Hd, Hv⟩ Hk
  iapply (Transfers.wp_dmaLocal EC 𝒱₀ (c : Thread nD τ) none () n (show dst.view.amount (.dma sm) = n from hn) hn0 hD) $$ [Hs Hd Hv]
  · isplitl [Hs]; · iexact Hs
    isplitl [Hd]; · iexact Hd
    iexact Hv
  iintro Hf
  iapply Hk
  iapply (Transfers.Flight_mono (EC := EC) (c := (c : Thread nD τ)) (sm := .dma sm) (ι := ()) (N := n) _) $$ Hf
  unfold Landed
  iintro ⟨Hd, Hs⟩
  isplitl [Hd]
  · iexists _
    isplitl [Hd]; · iexact Hd
    ipureintro
    exact ⟨View.read_write_univ _ _, fun i hi => View.write_of_not_mem _ _ _ hi⟩
  iexact Hs

/-- A local transfer is awaited. -/
theorem await {κ : Kind} {b : Ref sig κ} {s : Shape} {e : EltTy} {hk : (c : Thread nD τ).2 = .tc ∨ b.HasMemref s e}
    {α : Type} {Q : α → sProp 𝕄} {k : PUnit → Prog (TpuEff nD τ sig (Elt F) Λ₀ .tc) α} (sm₀ : DmaSem sig) (hs : sm = sm₀) (n : ℕ)
    (hn : b.dmaCredit s e = n) (hlow : lvS (.dma sm₀) < 2)
    {O : CellTallies nD τ sig Unit} (hO : High O) {D : sProp 𝕄} :
    iprop(Transfers.Flight EC (c : Thread nD τ) (.dma sm₀) () n D ∗ Owes c O ∗ levAts L lv)
      ⊢ iprop(((D ∗ semVal (dcell c sm₀) 0 ∗ Owes c O) -∗ Run c (k ⟨⟩) Q)
        -∗ Run c (.op (.waitDma sm b s e hk) k) Q) := by
  subst hs
  unfold Owes
  iintro ⟨Hf, ⟨%W, HO⟩, Hlev⟩ Hk
  iapply (Transfers.wp_waitLocalOSized EC 𝒱₀ (c : Thread nD τ) none () hn) $$ [Hf HO Hlev]
  · isplitl [Hf]; · iexact Hf
    isplitl [HO]; · iexact HO
    iapply (mayWait_low c (.dma sm) hlow O hO); iexact Hlev
  iintro ⟨HD, Hv, HO⟩
  iapply Hk
  isplitl [HD]; · iexact HD
  isplitl [Hv]; · iexact Hv
  iexists _; iexact HO

end Local

/-- The local transfers' semaphores are low. -/
theorem lvS_local (s : DmaSem sig) (h : 34 ≤ s.val) : lvS (.dma s) < 2 := by
  show (if 16 ≤ s.val ∧ s.val < 32 ∨ s.val = 33 then 2 else 0) < 2
  rw [if_neg (by omega)]; omega

theorem High.O₁ (c : Dev nD) : High (O₁ c) := High.add (High.Orem c 0) (High.Ost c)

/-! ## A ring's transfers -/

/-- A block `S` of a buffer that is otherwise at hand, on its way; what arrives is `H`. -/
def Fly (c : Dev nD) (sm₀ : DmaSem sig) (n : ℕ) (ℓ : Loc nD τ sig) (S : Finset (Idx ℓ)) (f : Buf (Elt F) ℓ) (H : sProp 𝕄) : sProp 𝕄 :=
  iprop(Transfers.Flight EC (c : Thread nD τ) (.dma sm₀) () n iprop(H ∗ (ℓ ↦[S]{fullShare} f)) ∗ (ℓ ↦[Finset.univ \ S]{fullShare} f))

/-- The block is sent for. -/
theorem fetch (c : Dev nD) {sp sp' : Space} {s : Shape} {e : EltTy} (src : Memref sig ((c : Thread nD τ).2.kind) sp s e)
    (dst : Memref sig ((c : Thread nD τ).2.kind) sp' s e) {sm : DmaSem sig} {hsrc : src.view.WordExact} {hdst : dst.view.WordExact}
    {hsem : DmaTarget.Typed (nD := nD) sp (.dma sm) (.here dst)} {α : Type} {Q : α → sProp 𝕄}
    {k : PUnit → Prog (TpuEff nD τ sig (Elt F) Λ₀ .tc) α} {Ss : Finset (Idx (src.view.loc (c : Thread nD τ)))}
    {Sd : Finset (Idx (dst.view.loc (c : Thread nD τ)))} {fs : Buf (Elt F) (src.view.loc (c : Thread nD τ))}
    (sm₀ : DmaSem sig) (hs : sm = sm₀) (n : ℕ) (hn : dst.view.dmaCredit = n) (hn0 : 0 < n) (hS : src.view.set = Ss) (hD : dst.view.set = Sd)
    {H : sProp 𝕄} (hH : ∀ g, dst.view.read (Elt F) g = src.view.read (Elt F) fs → (dst.view.loc (c : Thread nD τ) ↦[Sd]{fullShare} g) ⊢ H) :
    iprop((src.view.loc (c : Thread nD τ) ↦{fullShare} fs) ∗ (∃ f, dst.view.loc (c : Thread nD τ) ↦[Sd]{fullShare} f) ∗ semVal (dcell c sm₀) 0)
      ⊢ iprop((Fly c sm₀ n (src.view.loc (c : Thread nD τ)) Ss fs H -∗ Run c (k ⟨⟩) Q)
        -∗ Run c (.op (.enqueueDma src (.here dst) (.dma sm) hsrc hdst hsem) k) Q) := by
  unfold Fly
  iintro ⟨Hx, ⟨%f, Hd⟩, Hv⟩ Hk
  ihave Hx := (pointsTo_split_subset (Finset.subset_univ Ss)) $$ Hx
  icases Hx with ⟨Hx, Hr⟩
  iapply (issue c src dst (Ss := Ss) (Sd := Sd) sm₀ hs n hn hn0 hS hD.subset) $$ [Hx Hd Hv]
  · isplitl [Hx]; · iexact Hx
    isplitl [Hd] <;> iassumption
  iintro Hf
  iapply Hk
  isplitl [Hf]
  · iapply (Transfers.Flight_mono (EC := EC) (c := (c : Thread nD τ)) (sm := .dma sm₀) (ι := ()) (N := n) _) $$ Hf
    unfold Landed
    iintro ⟨⟨%g, Hg, %hg⟩, Hs⟩
    isplitl [Hg]
    · iapply (hH g hg.1) $$ Hg
    iexact Hs
  iexact Hr

/-- The block lands. -/
theorem land (c : Dev nD) (sm₀ : DmaSem sig) {sm : DmaSem sig} (hs : sm = sm₀) {n : ℕ} {ℓ : Loc nD τ sig} {S : Finset (Idx ℓ)} {f : Buf (Elt F) ℓ}
    {H : sProp 𝕄} {κ : Kind} {b : Ref sig κ} {s : Shape} {e : EltTy} {hk : (c : Thread nD τ).2 = .tc ∨ b.HasMemref s e}
    (hn : b.dmaCredit s e = n) (hlow : 34 ≤ sm₀.val) {O : CellTallies nD τ sig Unit} (hO : High O)
    {α : Type} {Q : α → sProp 𝕄} {k : PUnit → Prog (TpuEff nD τ sig (Elt F) Λ₀ .tc) α} :
    iprop(Fly c sm₀ n ℓ S f H ∗ Owes c O ∗ levAts L lv)
      ⊢ iprop(((H ∗ (ℓ ↦{fullShare} f) ∗ semVal (dcell c sm₀) 0 ∗ Owes c O) -∗ Run c (k ⟨⟩) Q)
        -∗ Run c (.op (.waitDma sm b s e hk) k) Q) := by
  unfold Fly
  iintro ⟨⟨Hfl, Hbut⟩, HO, #Hlev⟩ Hk
  iapply (await c sm₀ hs n hn (lvS_local _ hlow) hO) $$ [Hfl HO]
  · isplitl [Hfl]; · iexact Hfl
    isplitl [HO]; · iexact HO
    iexact Hlev
  iintro ⟨⟨Hhas, Hcol⟩, Hv, HO⟩
  iapply Hk
  isplitl [Hhas]; · iexact Hhas
  isplitl [Hcol Hbut]
  · iapply (pointsTo_split_subset (Finset.subset_univ S)).2 $$ [Hcol Hbut]
    isplitl [Hcol] <;> iassumption
  isplitl [Hv] <;> iassumption

/-! ## The semaphores a trip names -/

/-- Element `j` of a row of consecutive semaphores. -/
theorem sem_at {n a base : ℕ} {h : base + (⟨1, ![a]⟩ : Shape).numel ≤ n} {o : Fin 1 → ℕ} {j : ℕ} (ho : o = ![j])
    {inb : ∀ i, o i + (⟨1, ![1]⟩ : Shape).size i ≤ (⟨1, ![a]⟩ : Shape).size i} {hsq : (⟨1, ![1]⟩ : Shape).Squeezes ⟨0, ![]⟩} :
    ((((SemArray.consecutive base ⟨1, ![a]⟩ h).slice (Rect.unit (s := ⟨1, ![a]⟩) o (⟨1, ![1]⟩ : Shape).size inb)).squeeze ⟨0, ![]⟩ hsq).sem).val
      = base + j := by
  subst ho
  show base + ((⟨1, ![a]⟩ : Shape).rowMajor ((Rect.unit (s := ⟨1, ![a]⟩) ![j] (⟨1, ![1]⟩ : Shape).size inb).emb
    (Shape.reshapeEquiv hsq.numel_eq fun i => i.elim0))).val = base + j
  generalize (Shape.reshapeEquiv hsq.numel_eq fun i => i.elim0) = y
  rw [Shape.rowMajor_val_one, ValueKit.rect_emb_unit_val]
  have hy : (y 0).val < 1 := (y 0).isLt
  show base + (j + (y 0).val) = base + j
  omega

theorem xSem_at {o : Fin 1 → ℕ} {j : ℕ} (ho : o = ![j % 2]) {inb : ∀ i, o i + S1.size i ≤ S2.size i} :
    ((cc0_scratch13.slice (Rect.unit (s := S2) o S1.size inb)).squeeze S_ squeezes_S1_S_).sem = xSem j :=
  Fin.ext (sem_at (base := 34) ho)
theorem wSem_at {o : Fin 1 → ℕ} {j : ℕ} (ho : o = ![j % 2]) {inb : ∀ i, o i + S1.size i ≤ S2.size i} :
    ((cc0_scratch14.slice (Rect.unit (s := S2) o S1.size inb)).squeeze S_ squeezes_S1_S_).sem = wSem j :=
  Fin.ext (sem_at (base := 36) ho)
theorem sendSem_at {o : Fin 1 → ℕ} {k : Fin 16} (ho : o = ![k.val]) {inb : ∀ i, o i + S1.size i ≤ S16.size i} :
    ((cc0_scratch9.slice (Rect.unit (s := S16) o S1.size inb)).squeeze S_ squeezes_S1_S_).sem = sendSem k :=
  Fin.ext ((sem_at (base := 0) ho).trans (Nat.zero_add _))
theorem recvSem_at {o : Fin 1 → ℕ} {k : Fin 16} (ho : o = ![k.val]) {inb : ∀ i, o i + S1.size i ≤ S16.size i} :
    ((cc0_scratch10.slice (Rect.unit (s := S16) o S1.size inb)).squeeze S_ squeezes_S1_S_).sem = recvSem k :=
  Fin.ext (sem_at (base := 16) ho)

/-! ## Loads and stores -/

section Access
variable (c : Dev nD) {cs : CoreSpace} {s : Shape} {e : EltTy} (M : Memref sig ((c : Thread nD τ).2.kind) cs s e)

/-- A load through a rectangle. -/
theorem load (r : Rect s) {hl : M.view.LoadsAt r} {α : Type} {Q : α → sProp 𝕄}
    {k : (r.shape.Idx → Elt F e) → Prog (TpuEff nD τ sig (Elt F) Λ₀ .tc) α} {S : Finset (Idx ((M.access r).loc (c : Thread nD τ)))}
    {q : PosShare TreeShare} {f : Buf (Elt F) ((M.access r).loc (c : Thread nD τ))} (hS : (M.access r).set ⊆ S)
    {w : r.shape.Idx → Elt F e} (hw : (M.access r).read (Elt F) f = w) :
    ((M.access r).loc (c : Thread nD τ) ↦[S]{q} f)
      ⊢ iprop((((M.access r).loc (c : Thread nD τ) ↦[S]{q} f) -∗ Run c (k w) Q) -∗ Run c (.op (.load M r hl) k) Q) := by
  subst hw
  exact wp_load_rect 𝒱₀ (c : Thread nD τ) none Set.univ hS

/-- A store through a rectangle: it then reads what was stored, and is elsewhere as it was. -/
theorem store (r : Rect s) {w : r.shape.Idx → Elt F e} {hx : (M.access r).Stores Finset.univ}
    {hm : (Finset.univ : Finset r.shape.Idx) = Finset.univ ∨ ∀ a, r.stride a = 1} {α : Type} {Q : α → sProp 𝕄}
    {k : PUnit → Prog (TpuEff nD τ sig (Elt F) Λ₀ .tc) α} {f : Buf (Elt F) ((M.access r).loc (c : Thread nD τ))} :
    ((M.access r).loc (c : Thread nD τ) ↦{fullShare} f)
      ⊢ iprop(((∃ g, ((M.access r).loc (c : Thread nD τ) ↦{fullShare} g)
            ∗ ⌜(M.access r).read (Elt F) g = w ∧ ∀ i, i ∉ (M.access r).set → g i = f i⌝) -∗ Run c (k ⟨⟩) Q)
        -∗ Run c (.op (.store M r w Finset.univ hx hm) k) Q) := by
  iintro Hf Hk
  iapply (wp_store 𝒱₀ (c : Thread nD τ) none Set.univ (Finset.subset_univ _)) $$ Hf
  iintro Hf
  iapply Hk
  iexists _
  isplitl [Hf]; · iexact Hf
  ipureintro
  exact ⟨View.read_write_univ _ _, fun i hi => View.write_of_not_mem _ _ _ hi⟩

end Access

/-- A step taken only if `P`. -/
theorem optional (c : Dev nD) {P : Prop} [Decidable P] {α : Type} {Q : α → sProp 𝕄} {e : P → TpuEff nD τ sig (Elt F) Λ₀ .tc PUnit}
    {K : Prog (TpuEff nD τ sig (Elt F) Λ₀ .tc) α} {A B : sProp 𝕄}
    (h₁ : ∀ h : P, A ⊢ iprop((B -∗ Run c K Q) -∗ Run c (.op (e h) fun _ => K) Q)) (h₂ : ¬P → A ⊢ B) :
    A ⊢ iprop((B -∗ Run c K Q) -∗ Run c (if h : P then .op (e h) (fun _ => K) else K) Q) := by
  by_cases h : P
  · rw [dif_pos h]; exact h₁ h
  · rw [dif_neg h]
    iintro HA Hk
    iapply Hk
    iapply (h₂ h) $$ HA

/-! ## A family at one index -/

/-- One index of a family is taken out and put back changed, the others being as they were. -/
theorem bigSep_step {I : Type} [Fintype I] [DecidableEq I] (p : I) {Φ Ψ : I → sProp 𝕄} (h : ∀ k, k ≠ p → Φ k = Ψ k) :
    bigSep Finset.univ Φ ⊢ iprop(Φ p ∗ (Ψ p -∗ bigSep Finset.univ Ψ)) := by
  have e₁ : bigSep Finset.univ Φ = iprop(Φ p ∗ bigSep (Finset.univ.erase p) Ψ) :=
    (bigSep_univ_split p).trans (congrArg (fun X => iprop(Φ p ∗ X)) (bigSep_congr fun k hk => h k (Finset.ne_of_mem_erase hk)))
  have e₂ : bigSep Finset.univ Ψ = iprop(Ψ p ∗ bigSep (Finset.univ.erase p) Ψ) := bigSep_univ_split p
  rw [e₁, e₂]
  iintro ⟨Hp, Hr⟩
  isplitl [Hp]; · iexact Hp
  iintro Hq
  isplitl [Hq] <;> iassumption

/-! ## The cells, listed -/

/-- The cells of a device: its sends, its landings, and the barrier, the statistics' send and landing. -/
abbrev CI : Type := Fin 16 ⊕ (Fin 16 ⊕ Fin 3)

/-- The semaphore of each. -/
def csem : CI → SemLoc sig
  | .inl k => .dma (sendSem k)
  | .inr (.inl k) => .dma (recvSem k)
  | .inr (.inr 0) => .reg barS
  | .inr (.inr 1) => .dma ssSem
  | .inr (.inr 2) => .dma srSem

abbrev kcell (ck : Dev nD × CI) : GSem nD τ sig := ((ck.1 : Thread nD τ), csem ck.2)

theorem isCell_csem (i : CI) : IsCell (csem i) := by
  match i with
  | .inl k => exact isCell_send k
  | .inr (.inl k) => exact isCell_recv k
  | .inr (.inr 0) => exact isCell_bar
  | .inr (.inr 1) => exact isCell_ss
  | .inr (.inr 2) => exact isCell_sr

/-- Every cell's invariant, under the names `K`, and that every cell has reached round 0. -/
def records (K : Dev nD × CI → ℕ) : sProp 𝕄 :=
  bigSep Finset.univ fun ck : Dev nD × CI => iprop(cellInv ER (sched m) (K ck) (kcell ck) ∗ reached ER (kcell ck) 0)

instance records_persistent (K : Dev nD × CI → ℕ) : BI.Persistent (records m K) := by unfold records; infer_instance

theorem records_at (K : Dev nD × CI → ℕ) (ck : Dev nD × CI) :
    records m K ⊢ iprop(cellInv ER (sched m) (K ck) (kcell ck) ∗ reached ER (kcell ck) 0) := by
  unfold records
  exact bigSep_elim (Finset.mem_univ ck)

variable (K : Dev nD × CI → ℕ)

/-! ## Waiting at a cell of the protocol -/

section Wait
variable (c : Dev nD)

/-- The wait at the last round of a DMA cell: its payload comes, and the cell closes. -/
theorem collect (i : CI) (sm₀ : DmaSem sig) (hi : csem i = .dma sm₀) {sm : DmaSem sig} (hs : sm = sm₀) {κ : Kind} {b : Ref sig κ} {s : Shape} {e : EltTy} {hk : (c : Thread nD τ).2 = .tc ∨ b.HasMemref s e}
    {α : Type} {Q : α → sProp 𝕄} {k : PUnit → Prog (TpuEff nD τ sig (Elt F) Λ₀ .tc) α} (n : ℕ) (hn : b.dmaCredit s e = n) (ha : amt (.dma sm₀) = n) :
    iprop(records m K ∗ cred (tallyAt (dcell c sm₀) () n) ∗ Owes c 0 ∗ atPos ER (dcell c sm₀) 0 ∅ 0)
      ⊢ iprop(((pay m c (.dma sm₀) ∗ semVal (dcell c sm₀) 0 ∗ Owes c 0) -∗ Run c (k ⟨⟩) Q)
        -∗ Run c (.op (.waitDma sm b s e hk) k) Q) := by
  subst hs
  have hc : IsCell (.dma sm) := hi ▸ isCell_csem i
  subst hn
  unfold Owes
  iintro ⟨#Hrec, Hc, ⟨%W, HO⟩, Hat⟩ Hk
  ihave Hr := (records_at m K (c, i)) $$ Hrec
  icases Hr with ⟨Hinv, -⟩
  ihave #Hinv := (Entails.of_eq (show cellInv ER (sched m) (K (c, i)) (kcell (c, i)) = cellInv ER (sched m) (K (c, i)) (dcell c sm) by
    unfold kcell; rw [hi])) $$ Hinv
  iapply (Rounds.wp_wait_rest_token 𝒱₀ ER (sched m) (c : Thread nD τ) none (κ := K (c, i))
    (wpE_waitDma_eq 𝒱₀ (c : Thread nD τ) none Set.univ) (Set.mem_univ _) () (O := 0) (W := W) (R := 0) (m := 0) (T := ∅)
    (by rw [Nat.zero_add, expect_cell m c _ hc, ha])) $$ [Hc HO Hat]
  · isplitr; · iexact Hinv
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, i))) (fun h => h) (R := 0 + 1) (duties_later m (dcell c sm))) $$ [Hat] with Hz
  · isplitr; · iexact Hinv
    iexact Hat
  iapply Hk
  isplitl [Hpay]; · iapply (Entails.of_eq (rest_cell m c _ hc)) $$ Hpay
  isplitl [Hz]; · iexact Hz
  iexists _; iexact HO

/-- The wait at the barrier, likewise, while landings are owed. -/
theorem collectBar {α : Type} {Q : α → sProp 𝕄} {k : PUnit → Prog (TpuEff nD τ sig (Elt F) Λ₀ .tc) α} {O : CellTallies nD τ sig Unit} (hO : High O) :
    iprop(records m K ∗ cred (tallyAt (barCell c) () 1) ∗ Owes c O ∗ levAts L lv ∗ atPos ER (barCell c) 0 ∅ 0)
      ⊢ iprop(((barPay c ∗ semVal (barCell c) 0 ∗ Owes c O) -∗ Run c (k ⟨⟩) Q)
        -∗ Run c (.op (.semWait barS 1) k) Q) := by
  unfold Owes
  iintro ⟨#Hrec, Hc, ⟨%W, HO⟩, Hlev, Hat⟩ Hk
  ihave Hr := (records_at m K (c, .inr (.inr 0))) $$ Hrec
  icases Hr with ⟨#Hinv, -⟩
  iapply (Rounds.wp_wait_rest_token 𝒱₀ ER (sched m) (c : Thread nD τ) none (κ := K (c, .inr (.inr 0)))
    (wpE_semWait_eq 𝒱₀ (c : Thread nD τ) none Set.univ) (Set.mem_univ _) () (O := O) (W := W) (R := 0) (m := 0) (T := ∅)
    (by rw [Nat.zero_add, expect_cell m c _ isCell_bar]; rfl)) $$ [Hc HO Hat Hlev]
  · isplitr; · iexact Hinv
    isplitl [Hc]; · iexact Hc
    isplitl [HO]; · iexact HO
    isplitl [Hlev]; · iapply (mayWait_low c (.reg barS) (by decide) O hO); iexact Hlev
    iexact Hat
  iintro ⟨HO, Hat, -, Hpay⟩
  imod (Rounds.cell_close ER (sched m) (Set.mem_univ (K (c, .inr (.inr 0)))) (fun h => h) (R := 0 + 1) (duties_later m (barCell c))) $$ [Hat] with Hz
  · isplitr; · iexact Hinv
    iexact Hat
  iapply Hk
  isplitl [Hpay]; · iapply (Entails.of_eq ((rest_cell m c _ isCell_bar).trans (pay_bar m c))) $$ Hpay
  isplitl [Hz]; · iexact Hz
  iexists _; iexact HO

/-- The signal to the peer's barrier: the device's own landing buffers go with it. -/
theorem signalPeer (n : Dev nD) (hn : n = peer c) {α : Type} {Q : α → sProp 𝕄} {k : PUnit → Prog (TpuEff nD τ sig (Elt F) Λ₀ .tc) α} :
    iprop(records m K ∗ Owes c (O₀ c) ∗ dutyTok ER (barCell (peer c)) 0 () ∗ barPay (peer c))
      ⊢ iprop((Owes c (O₁ c) -∗ Run c (k ⟨⟩) Q)
        -∗ Run c (.op (.semSignal (n : Thread nD τ) barS 1) k) Q) := by
  subst hn
  unfold Owes
  iintro ⟨#Hrec, ⟨%W, HO⟩, Ht, Hp⟩ Hk
  ihave Hr := (records_at m K (peer c, .inr (.inr 0))) $$ Hrec
  icases Hr with ⟨#Hinv, #Hre⟩
  iapply (Rounds.wp_signal 𝒱₀ ER (sched m) (c : Thread nD τ) none (dst := (peer c : Thread nD τ)) (κ := K (peer c, .inr (.inr 0)))
      (d := ()) (mem_duties m (peer c) _ isCell_bar) rfl () (O₁ c) rfl) $$ [HO Ht Hp]
  · isplitr; · iexact Hinv
    isplitl [HO]; · iexact HO
    isplitl [Ht]; · iexact Ht
    isplitl [Hp]; · iapply (Entails.of_eq (show barPay (peer c) = (sched m).payload (barCell (peer c)) 0 () from rfl)) $$ Hp
    iexact Hre
  iintro HO
  iapply Hk
  iexists _; iexact HO

end Wait

/-! ## Sending to the peer -/

section Send
variable (c : Dev nD)

/-- A transfer to the peer between two cells of the protocol: the source is lent, the landing at the peer is paid. -/
theorem send (n : Dev nD) (hn : n = peer c) (i₁ i₂ : CI) (sS₀ sR₀ : DmaSem sig) (h₁ : csem i₁ = .dma sS₀) (h₂ : csem i₂ = .dma sR₀)
    {sS sR : DmaSem sig} (hS : sS = sS₀) (hR : sR = sR₀)
    {sp sp' : Space} {s : Shape} {e : EltTy} {src : Memref sig ((c : Thread nD τ).2.kind) sp s e}
    {dst : Memref sig (Dev.tc n : Thread nD τ).2.kind sp' s e} {hsc : dst.view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α} (a : ℕ) (ha : dst.view.dmaCredit = a) (ha₁ : amt (.dma sS₀) = a)
    (ha₂ : amt (.dma sR₀) = a) {q : PosShare TreeShare} {fs : Buf (Elt F) (src.view.loc (c : Thread nD τ))}
    {fd : Buf (Elt F) (dst.view.loc (Dev.tc n : Thread nD τ))} (O : CellTallies nD τ sig Unit)
    (hp₁ : (src.view.loc (c : Thread nD τ) ↦[src.view.set]{q} fs) ⊢ pay m c (.dma sS₀))
    (hp₂ : (dst.view.loc (Dev.tc n : Thread nD τ) ↦[dst.view.set]{fullShare}
      (dst.view.write (Elt F) fd (src.view.read (Elt F) fs) Finset.univ)) ⊢ pay m n (.dma sR₀)) :
    iprop(records m K ∗ (src.view.loc (c : Thread nD τ) ↦[src.view.set]{q} fs)
        ∗ (dst.view.loc (Dev.tc n : Thread nD τ) ↦[dst.view.set]{fullShare} fd)
        ∗ Owes c (O + tallyAt (dcell n sR₀) () a) ∗ dutyTok ER (dcell c sS₀) 0 () ∗ dutyTok ER (dcell n sR₀) 0 ())
      ⊢ iprop(((cred (tallyAt (dcell c sS₀) () a) ∗ Owes c O) -∗ Run c (k ⟨⟩) Q)
        -∗ Run c (.op (.enqueueDma src (.remote (Dev.tc n : Thread nD τ) dst (.dma sS) hsc) (.dma sR) hsrc hdst hsem) k) Q) := by
  subst hn hS hR
  have c₁ : IsCell (.dma sS) := h₁ ▸ isCell_csem i₁
  have c₂ : IsCell (.dma sR) := h₂ ▸ isCell_csem i₂
  unfold Owes
  iintro ⟨#Hrec, Hs, Hd, ⟨%W, HO⟩, Ht1, Ht2⟩ Hk
  ihave Hr1 := (records_at m K (c, i₁)) $$ Hrec
  ihave Hr1 := (Entails.of_eq (show iprop(cellInv ER (sched m) (K (c, i₁)) (kcell (c, i₁)) ∗ reached ER (kcell (c, i₁)) 0)
    = iprop(cellInv ER (sched m) (K (c, i₁)) (dcell c sS) ∗ reached ER (dcell c sS) 0) by unfold kcell; rw [h₁])) $$ Hr1
  icases Hr1 with ⟨#Hinv1, #Hre1⟩
  ihave Hr2 := (records_at m K (peer c, i₂)) $$ Hrec
  ihave Hr2 := (Entails.of_eq (show iprop(cellInv ER (sched m) (K (peer c, i₂)) (kcell (peer c, i₂)) ∗ reached ER (kcell (peer c, i₂)) 0)
    = iprop(cellInv ER (sched m) (K (peer c, i₂)) (dcell (peer c) sR) ∗ reached ER (dcell (peer c) sR) 0) by unfold kcell; rw [h₂])) $$ Hr2
  icases Hr2 with ⟨#Hinv2, #Hre2⟩
  iapply (Rounds.wp_send_pointsTo 𝒱₀ ER (sched m) (c : Thread nD τ) none (κ₁ := K (c, i₁)) (κ₂ := K (peer c, i₂))
    (r₁ := 0) (r₂ := 0) (d₁ := ()) (d₂ := ()) (q := q) (fs := fs) (fd := fd) (W := W)
    (mem_duties m c _ c₁) (mem_duties m (peer c) _ c₂) () () a (show dst.view.amount (.dma sR) = a from ha)
    ha₁ ha₂ O rfl hp₁ hp₂) $$ [Hs Hd HO Ht1 Ht2]
  · isplitr; · iexact Hinv1
    isplitr; · iexact Hinv2
    isplitl [Hs]; · iexact Hs
    isplitl [Hd]; · iexact Hd
    isplitl [HO]; · iexact HO
    isplitl [Ht1]; · iexact Ht1
    isplitr; · iexact Hre1
    isplitl [Ht2]; · iexact Ht2
    iexact Hre2
  iintro ⟨Hc, HO⟩
  iapply Hk
  isplitl [Hc]; · iexact Hc
  iexists _; iexact HO

end Send

end Cert.Fused

end
-- ==== Proof.Blocks.lean ====
/-
# The blocks of logits

While the logits are computed and sent, each of the sixteen blocks passes through three states: to be computed, computed,
and sent. A block that is sent leaves the device the right half of its share, to go on reading it. Blocks are sent in order.
-/
module

public import proofs.«01_k».proof.Proof.Steps

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- What it takes to send block `k`: the duties of its two cells, and the peer's landing buffer. -/
def sendable (k : Fin 16) : sProp 𝕄 :=
  iprop(dutyTok ER (sendCell c k) 0 () ∗ dutyTok ER (recvCell (peer c) k) 0 () ∗ ∃ f, pbPts (peer c) k.val f)
/-- A block not yet sent: computed or not. -/
def unsent (k : Fin 16) (b : Prop) [Decidable b] : sProp 𝕄 :=
  iprop(sendable c k ∗ if b then lbPts c k.val fullShare (lbA m c) else ∃ f, lbPts c k.val fullShare f)
/-- A block that is sent. -/
def sent (k : Fin 16) : sProp 𝕄 :=
  iprop(cred (tallyAt (sendCell c k) () N) ∗ lbPts c k.val fullShare.right (lbA m c))
/-- Block `k` when `n` blocks are sent and `p` computed, -/
def blk (n p : ℕ) (k : Fin 16) : sProp 𝕄 := if k.val < n then sent m c k else unsent m c k (k.val < p)
/-- and all of them. -/
def blocks (n p : ℕ) : sProp 𝕄 := bigSep Finset.univ (blk m c n p)

/-- Block `p` is computed. -/
theorem blocks_store (n : ℕ) (p : Fin 16) (h : n ≤ p.val) :
    blocks m c n p.val ⊢ iprop((∃ f, lbPts c p.val fullShare f)
      ∗ (lbPts c p.val fullShare (lbA m c) -∗ blocks m c n (p.val + 1))) := by
  have step := bigSep_step p (Φ := blk m c n p.val) (Ψ := blk m c n (p.val + 1)) fun k hk => by
    have hk' : k.val ≠ p.val := fun e => hk (Fin.ext e)
    have hi : (k.val < p.val) = (k.val < p.val + 1) := propext (by omega)
    unfold blk unsent
    simp only [hi]
  have e₁ : blk m c n p.val p = iprop(sendable c p ∗ ∃ f, lbPts c p.val fullShare f) := by
    unfold blk unsent; rw [if_neg (by omega), if_neg (by omega)]
  have e₂ : blk m c n (p.val + 1) p = iprop(sendable c p ∗ lbPts c p.val fullShare (lbA m c)) := by
    unfold blk unsent; rw [if_neg (by omega), if_pos (by omega)]
  rw [e₁, e₂] at step
  unfold blocks
  iintro H
  ihave H := step $$ H
  icases H with ⟨⟨Hs, Hp⟩, Hr⟩
  isplitl [Hp]; · iexact Hp
  iintro Hq
  iapply Hr
  isplitl [Hs] <;> iassumption

/-- Block `n` is sent. -/
theorem blocks_send (n : Fin 16) (p : ℕ) (h : n.val < p) :
    blocks m c n.val p ⊢ iprop((sendable c n ∗ lbPts c n.val fullShare (lbA m c)) ∗ (sent m c n -∗ blocks m c (n.val + 1) p)) := by
  have step := bigSep_step n (Φ := blk m c n.val p) (Ψ := blk m c (n.val + 1) p) fun k hk => by
    have hk' : k.val ≠ n.val := fun e => hk (Fin.ext e)
    have hi : (k.val < n.val) = (k.val < n.val + 1) := propext (by omega)
    unfold blk
    simp only [hi]
  have e₁ : blk m c n.val p n = iprop(sendable c n ∗ lbPts c n.val fullShare (lbA m c)) := by
    unfold blk unsent; rw [if_neg (by omega), if_pos h]
  have e₂ : blk m c (n.val + 1) p n = sent m c n := by
    unfold blk; rw [if_pos (by omega)]
  rw [e₁, e₂] at step
  exact step

/-! ## The views of a block -/

/-- A block of the device's logits in HBM, -/
abbrev lbM (o : Fin 2 → ℕ) (inb : ∀ a, o a + S2048x512.size a ≤ S2048x8192.size a) : Memref sig .tc .hbm S2048x512 .bf16 :=
  (Memref.whole main_v1_1 : Memref sig .tc .hbm S2048x8192 .bf16).slice (Rect.unit (s := S2048x8192) o S2048x512.size inb) (fun _ => rfl)
/-- and of the landing buffer. -/
abbrev pbM (o : Fin 2 → ℕ) (inb : ∀ a, o a + S2048x512.size a ≤ S2048x8192.size a) : Memref sig .tc .hbm S2048x512 .bf16 :=
  (Memref.whole main_v1_2 : Memref sig .tc .hbm S2048x8192 .bf16).slice (Rect.unit (s := S2048x8192) o S2048x512.size inb) (fun _ => rfl)

section Views
variable {k : ℕ} {o : Fin 2 → ℕ} (ho : o = ![0, 512 * k]) (inb : ∀ a, o a + S2048x512.size a ≤ S2048x8192.size a)
include ho in
theorem lbM_set : (lbM o inb).view.set = colSet 2048 8192 k := (View.set_slice_whole _ _).trans (rect_set ho inb)
include ho in
theorem pbM_set : (pbM o inb).view.set = colSet 2048 8192 k := (View.set_slice_whole _ _).trans (rect_set ho inb)
include ho in
theorem lbM_read (f : Arr F S2048x8192 .bf16) : (lbM o inb).view.read (Elt F) f = cut f k := rect_emb ho inb f
include ho in
theorem pbM_read (f : Arr F S2048x8192 .bf16) : (pbM o inb).view.read (Elt F) f = cut f k := rect_emb ho inb f
theorem lbM_credit : (lbM o inb).view.dmaCredit = N := rfl
theorem pbM_credit : (pbM o inb).view.dmaCredit = N := rfl
end Views

/-- Block `j` of the logits goes to the peer. -/
theorem sendBlock (n : Dev nD) (hn : n = peer c) (j : Fin 16) {oS oR : Fin 1 → ℕ} (hS : oS = ![j.val]) (hR : oR = ![j.val])
    {inS : ∀ i, oS i + S1.size i ≤ S16.size i} {inR : ∀ i, oR i + S1.size i ≤ S16.size i}
    {o : Fin 2 → ℕ} (ho : o = ![0, 512 * j.val]) {inb : ∀ a, o a + S2048x512.size a ≤ S2048x8192.size a}
    {hsc} {hsrc} {hdst} {hsem} {α : Type} {Q : α → sProp 𝕄} {k : PUnit → Prog (TpuEff nD τ sig (Elt F) Λ₀ .tc) α}
    (P : CellTallies nD τ sig Unit) :
    iprop(records m K ∗ (sendable c j ∗ lbPts c j.val fullShare (lbA m c)) ∗ Owes c (Orem c j.val + P))
      ⊢ iprop(((sent m c j ∗ Owes c (Orem c (j.val + 1) + P)) -∗ Run c (k ⟨⟩) Q)
        -∗ Run c (.op (.enqueueDma (lbM o inb) (.remote (Dev.tc n : Thread nD τ) (pbM o inb)
            (.dma ((cc0_scratch9.slice (Rect.unit (s := S16) oS S1.size inS)).squeeze S_ squeezes_S1_S_).sem) hsc)
          (.dma ((cc0_scratch10.slice (Rect.unit (s := S16) oR S1.size inR)).squeeze S_ squeezes_S1_S_).sem) hsrc hdst hsem) k) Q) := by
  have hO : Orem c j.val + P = (Orem c (j.val + 1) + P) + tallyAt (dcell (peer c) (recvSem j)) () N := by
    rw [Orem_step c j]; exact add_right_comm _ _ _
  rw [hO]
  subst hn
  unfold sendable
  iintro ⟨#Hrec, ⟨⟨Ht1, Ht2, ⟨%f, Hd⟩⟩, Hl⟩, HO⟩ Hk
  unfold lbPts pbPts
  ihave Hl := (pointsTo_share (q := fullShare) (by rw [PosShare.left_op_right]; exact Part.mem_some _)).1 $$ Hl
  icases Hl with ⟨Hl, Hr⟩
  have hs := lbM_set ho inb
  have hd := pbM_set ho inb
  iapply (send m K c (peer c) rfl (.inl j) (.inr (.inl j)) (sendSem j) (recvSem j) rfl rfl (sendSem_at hS) (recvSem_at hR)
    (src := lbM o inb) (dst := pbM o inb) N (pbM_credit inb) (amt_send j) (amt_recv j) (q := fullShare.left) (fs := lbA m c) (fd := f)
    (Orem c (j.val + 1) + P)
    (by rw [pay_send, hs]; exact Entails.of_eq rfl)
    (by
      rw [pay_recv, hd]
      unfold recvPay pbPts
      rw [peer_peer]
      refine Entails.of_eq (pointsTo_congr (agree_of_cut ?_))
      rw [← pbM_read ho inb, ← lbM_read ho inb]
      exact View.read_write_univ _ _)) $$ [Hl Hd HO Ht1 Ht2]
  · isplitr; · iexact Hrec
    isplitl [Hl]; · rw [hs]; iexact Hl
    isplitl [Hd]; · rw [hd]; iexact Hd
    isplitl [HO]; · iexact HO
    isplitl [Ht1] <;> iassumption
  iintro ⟨Hc, HO⟩
  iapply Hk
  unfold sent lbPts
  isplitl [Hc Hr]
  · isplitl [Hc] <;> iassumption
  iexact HO

/-- The next block goes to the peer. -/
theorem sendNext (n : Dev nD) (hn : n = peer c) (j : Fin 16) {oS oR : Fin 1 → ℕ} (hS : oS = ![j.val]) (hR : oR = ![j.val])
    {inS : ∀ i, oS i + S1.size i ≤ S16.size i} {inR : ∀ i, oR i + S1.size i ≤ S16.size i}
    {o : Fin 2 → ℕ} (ho : o = ![0, 512 * j.val]) {inb : ∀ a, o a + S2048x512.size a ≤ S2048x8192.size a}
    {hsc} {hsrc} {hdst} {hsem} {α : Type} {Q : α → sProp 𝕄} {k : PUnit → Prog (TpuEff nD τ sig (Elt F) Λ₀ .tc) α}
    (P : CellTallies nD τ sig Unit) (p : ℕ) (hp : j.val < p) :
    iprop(records m K ∗ blocks m c j.val p ∗ Owes c (Orem c j.val + P))
      ⊢ iprop(((blocks m c (j.val + 1) p ∗ Owes c (Orem c (j.val + 1) + P)) -∗ Run c (k ⟨⟩) Q)
        -∗ Run c (.op (.enqueueDma (lbM o inb) (.remote (Dev.tc n : Thread nD τ) (pbM o inb)
            (.dma ((cc0_scratch9.slice (Rect.unit (s := S16) oS S1.size inS)).squeeze S_ squeezes_S1_S_).sem) hsc)
          (.dma ((cc0_scratch10.slice (Rect.unit (s := S16) oR S1.size inR)).squeeze S_ squeezes_S1_S_).sem) hsrc hdst hsem) k) Q) := by
  iintro ⟨#Hrec, Hb, HO⟩ Hk
  ihave Hb := (blocks_send m c j p hp) $$ Hb
  icases Hb with ⟨Hb, Hr⟩
  iapply (sendBlock m K c n hn j hS hR ho P) $$ [Hb HO]
  · isplitr; · iexact Hrec
    isplitl [Hb]; · iexact Hb
    iexact HO
  iintro ⟨Hs, HO⟩
  iapply Hk
  isplitl [Hs Hr]
  · iapply Hr; iexact Hs
  iexact HO

end Cert.Fused

end
-- ==== Proof.Logits.lean ====
/-
# The logits, block by block

The second loop: a block of `w` is brought in, narrowed and multiplied by the working copy of `x`; the running statistics
are updated; the block of logits, narrowed, goes to HBM; and the first eight are sent to the peer from there. The third loop
sends the other eight.
-/
module

public import proofs.«01_k».proof.Proof.Blocks

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The second loop's body, on the kernel's own buffers, -/
abbrev t2Body (d0 : Dev nD) (v5 v8 v9 : BitVec 32) : Fin k0_t2_loop.trips → FVec F S2048x1 .f32 × FVec F S2048x1 .f32 →
    Prog (TpuEff nD τ sig (Elt F) Λ₀ .tc) (FVec F S2048x1 .f32 × FVec F S2048x1 .f32) :=
  k0_t2_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 d0 v5 v8 v9
/-- and the third's. -/
abbrev t3Body (d0 : Dev nD) (v5 v8 v9 : BitVec 32) : Fin k0_t3_loop.trips → Unit → Prog (TpuEff nD τ sig (Elt F) Λ₀ .tc) Unit :=
  k0_t3_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 d0 v5 v8 v9

/-! ## The ring of `w` -/

/-- `w` in HBM, whole; -/
def wAll : sProp 𝕄 := (c : Thread nD τ).loc main_arg1 ↦{fullShare} wA m c
/-- slot `p mod 2`, holding anything -/
def wAny (p : ℕ) : sProp 𝕄 := iprop(∃ f, (c : Thread nD τ).loc cc0_scratch2 ↦[slotSet 4096 (p % 2)]{fullShare} f)
/-- or block `p`. -/
def wHas (p : ℕ) : sProp 𝕄 := iprop(∃ f : Arr F S2x4096x512 .f32,
  ((c : Thread nD τ).loc cc0_scratch2 ↦[slotSet 4096 (p % 2)]{fullShare} f) ∗ ⌜slotRead f (p % 2) = wSlot (wA m c) p⌝)

/-- A block of columns of `w`, -/
abbrev wSrc (o : Fin 2 → ℕ) (inb : ∀ a, o a + S4096x512.size a ≤ S4096x8192.size a) : Memref sig .tc .hbm S4096x512 .f32 :=
  (Memref.whole main_arg1 : Memref sig .tc .hbm S4096x8192 .f32).slice (Rect.unit (s := S4096x8192) o S4096x512.size inb) (fun _ => rfl)
/-- a slot, -/
abbrev wRow (o : Fin 3 → ℕ) (inb : ∀ a, o a + S1x4096x512.size a ≤ S2x4096x512.size a) : Memref sig .tc .vmem S1x4096x512 .f32 :=
  (Memref.whole cc0_scratch2 : Memref sig .tc .vmem S2x4096x512 .f32).slice (Rect.unit (s := S2x4096x512) o S1x4096x512.size inb) (fun _ => rfl)
/-- and the slot as a matrix. -/
abbrev wDst (o : Fin 3 → ℕ) (inb : ∀ a, o a + S1x4096x512.size a ≤ S2x4096x512.size a) : Memref sig .tc .vmem S4096x512 .f32 :=
  (wRow o inb).squeeze S4096x512 squeezes_S1x4096x512_S4096x512
/-- What a staging transfer counts. -/
def nW : ℕ := (wDst ![0, 0, 0] inb_S2x4096x512_S1x4096x512_0_0_0).view.dmaCredit
theorem nW_pos : 0 < nW := View.dmaCredit_pos _ (by decide)

section Views
variable {p : ℕ} {o : Fin 2 → ℕ} (ho : o = ![0, 512 * p]) (inb : ∀ a, o a + S4096x512.size a ≤ S4096x8192.size a)
  {o' : Fin 3 → ℕ} (ho' : o' = ![p % 2, 0, 0]) (inb' : ∀ a, o' a + S1x4096x512.size a ≤ S2x4096x512.size a)
include ho in
theorem wSrc_set : (wSrc o inb).view.set = colSet 4096 8192 p := (View.set_slice_whole _ _).trans (rect_set ho inb)
include ho in
theorem wSrc_read (f : Arr F S4096x8192 .f32) : (wSrc o inb).view.read (Elt F) f = cut f p := rect_emb ho inb f
include ho' in
theorem wRow_set : (wRow o' inb').view.set = slotSet 4096 (p % 2) := (View.set_slice_whole _ _).trans (slot_set ho' inb')
include ho' in
theorem wRow_read (f : Arr F S2x4096x512 .f32) : (wRow o' inb').view.read (Elt F) f = slotRead f (p % 2) := slot_emb ho' inb' f
include ho' in
theorem wDst_set : (wDst o' inb').view.set = slotSet 4096 (p % 2) := (View.set_reshape _ _).trans (wRow_set ho' inb')
include ho' in
theorem wDst_read (f : Arr F S2x4096x512 .f32) : slotRead f (p % 2) = lift numel_w ((wDst o' inb').view.read (Elt F) f) :=
  (wRow_read ho' inb' f).symm.trans (read_of_reshape (wRow o' inb').view numel_w f)
theorem wDst_credit : (wDst o' inb').view.dmaCredit = nW := rfl
end Views

/-- Block `p` on its way into its slot. -/
def wFly (p : ℕ) : sProp 𝕄 :=
  Fly c (wSem p) nW ((c : Thread nD τ).loc main_arg1) (colSet 4096 8192 p) (wA m c) (wHas m c p)
/-- Ready to bring in block `p`. -/
def wRest (p : ℕ) : sProp 𝕄 := iprop(wAll m c ∗ wAny c p ∗ semVal (dcell c (wSem p)) 0)

theorem wSem_two (p : ℕ) : wSem (p + 2) = wSem p := Fin.ext (show 36 + (p + 2) % 2 = 36 + p % 2 by omega)
theorem wAny_two (p : ℕ) : wAny (F := F) c (p + 2) = wAny c p := by unfold wAny; rw [Nat.add_mod_right]

/-- Block `p` is sent for. -/
theorem wIssue {p : ℕ} (hp : p < 16) {o : Fin 2 → ℕ} (ho : o = ![0, 512 * p]) {o' : Fin 3 → ℕ} (ho' : o' = ![p % 2, 0, 0]) {o'' : Fin 1 → ℕ} (ho'' : o'' = ![p % 2])
    {inb : ∀ a, o a + S4096x512.size a ≤ S4096x8192.size a} {inb' : ∀ a, o' a + S1x4096x512.size a ≤ S2x4096x512.size a}
    {inb'' : ∀ i, o'' i + S1.size i ≤ S2.size i} {hsrc} {hdst} {hsem} {α : Type} {Q : α → sProp 𝕄}
    {k : PUnit → Prog (TpuEff nD τ sig (Elt F) Λ₀ .tc) α} :
    wRest m c p ⊢ iprop((wFly m c p -∗ Run c (k ⟨⟩) Q) -∗ Run c (.op (.enqueueDma
      (wSrc o inb) (.here (wDst o' inb'))
      (.dma ((cc0_scratch14.slice (Rect.unit (s := S2) o'' S1.size inb'')).squeeze S_ squeezes_S1_S_).sem) hsrc hdst hsem) k) Q) := by
  unfold wRest wAll wAny wFly
  exact fetch c (wSrc o inb) (wDst o' inb') (wSem p) (wSem_at ho'') nW (wDst_credit inb') nW_pos (wSrc_set ho inb) (wDst_set ho' inb')
    fun g hg => by
      unfold wHas
      iintro Hg
      iexists g
      isplitl [Hg]; · iexact Hg
      ipureintro
      rw [wDst_read ho' inb', hg, wSrc_read ho inb]
      rfl

theorem cond2_iff : ∀ k : Fin k0_t2_loop.trips, k0_cond2 k = 1#1 ↔ k.val + 1 < 16 := by decide +kernel
theorem cond3_iff : ∀ k : Fin k0_t2_loop.trips, k0_cond3 k = 1#1 ↔ k.val < 8 := by decide +kernel
theorem trips2 : ∀ k : Fin k0_t2_loop.trips, k.val < 16 := by decide +kernel
theorem trips3 : ∀ k : Fin k0_t3_loop.trips, k.val + 8 < 16 := by decide +kernel
theorem dev2_eq (k : Fin k0_t2_loop.trips) (h : k0_cond3 k = 1#1) : (⟨k0_dev2 c, k0_dev2_lt c k h⟩ : Dev nD) = peer c :=
  Fin.ext ((k0_dev2_eq c).trans ((by decide : ∀ c : Dev nD, (4 * ((c.val / 4) % 2) + (c.val % 4) + 8) - 8 * (c.val / 8) = (peer c).val) c))
theorem dev4_eq : (⟨k0_dev4 c, k0_dev4_lt c⟩ : Dev nD) = peer c :=
  Fin.ext ((k0_dev4_eq c).trans ((by decide : ∀ c : Dev nD, (4 * ((c.val / 4) % 2) + (c.val % 4) + 8) - 8 * (c.val / 8) = (peer c).val) c))

/-! ## A trip of the second loop -/

/-- Before trip `p`: `p` blocks of logits are in HBM, the first eight of these are sent, block `p` of `w` is on its way. -/
def wInv (p : ℕ) (acc : FVec F S2048x1 .f32 × FVec F S2048x1 .f32) : sProp 𝕄 := iprop(
  ⌜acc = stat (xA m c) (wA m c) p⌝ ∗ records m K ∗ levAts L lv
  ∗ ((c : Thread nD τ).loc cc0_scratch0 ↦{fullShare} xb (xA m c))
  ∗ (∃ f, (c : Thread nD τ).loc cc0_scratch3 ↦{fullShare} f) ∗ (∃ f, (c : Thread nD τ).loc cc0_scratch4 ↦{fullShare} f)
  ∗ semVal (dcell c lbSem) 0 ∗ blocks m c (min p 8) p ∗ Owes c (Orem c (min p 8) + Ost c)
  ∗ (if p < 16 then wFly m c p else wRest m c p) ∗ wAny c (p + 1) ∗ semVal (dcell c (wSem (p + 1))) 0)

theorem zero2 : (![0, 0] : Fin 2 → ℕ) = fun _ => 0 := by funext a; fin_cases a <;> rfl

/-- What follows a choice follows either branch. -/
theorem bind_choice {P : Prop} [Decidable P] {α β : Type} (a : P → Prog (TpuEff nD τ sig (Elt F) Λ₀ .tc) α)
    (b : ¬P → Prog (TpuEff nD τ sig (Elt F) Λ₀ .tc) α) (k : α → Prog (TpuEff nD τ sig (Elt F) Λ₀ .tc) β) :
    (dite P a b) >>= k = dite P (fun h => a h >>= k) (fun h => b h >>= k) := by
  by_cases h : P
  · rw [dif_pos h, dif_pos h]
  · rw [dif_neg h, dif_neg h]

/-- A copied block of logits is the block it should be. -/
theorem lb_landed {p : ℕ} (hp : p < 16) {g : Arr F S2048x8192 .bf16} (hg : cut g p = lbBlk (xA m c) (wA m c) p) :
    ∀ i ∈ colSet 2048 8192 p, g i = lbA m c i :=
  agree_of_cut (hg.trans (cut_glue (lbBlk (xA m c) (wA m c)) p (by omega)).symm)

set_option maxHeartbeats 1000000 in
/-- One trip. -/
theorem wTrip (v5 v8 v9 : BitVec 32) (k : Fin k0_t2_loop.trips) (acc : FVec F S2048x1 .f32 × FVec F S2048x1 .f32) :
    wInv m K c k.val acc ⊢ Run c (t2Body (F := F) c v5 v8 v9 k acc) (wInv m K c (k.val + 1)) := by
  have hk := trips2 k
  obtain ⟨a, b⟩ := acc
  unfold t2Body k0_t2_body
  simp only [k0_part1_eq_skeleton]
  unfold k0_part1_skel
  simp only [bind_choice, Prog.lift, Prog.bind_op, Prog.bind_ret, Prog.pure_eq_ret]
  unfold wInv
  rw [if_pos hk]
  iintro ⟨%hacc, #Hrec, #Hlev, Hx, ⟨%f3, H3⟩, ⟨%f4, H4⟩, Hlb, Hbl, HO, Hfly, Hany, Hv⟩
  obtain ⟨rfl, rfl⟩ : a = (stat (xA m c) (wA m c) k.val).1 ∧ b = (stat (xA m c) (wA m c) k.val).2 := ⟨congrArg Prod.fst hacc, congrArg Prod.snd hacc⟩
  have hhigh : ∀ j, High (Orem c j + Ost c) := fun j => High.add (High.Orem c j) (High.Ost c)
  iapply (land c (wSem k.val) (wSem_at (k0_off9_eq k)) rfl (Nat.le_trans (by omega : 34 ≤ 36) (Nat.le_add_right 36 _)) (hhigh _)) $$ [Hfly HO]
  · unfold wFly; isplitl [Hfly]; · iexact Hfly
    isplitl [HO]; · iexact HO
    iexact Hlev
  iintro ⟨Hhas, Hw, Hv', HO⟩
  iapply (optional c (A := wRest m c (k.val + 1)) (B := if k.val + 1 < 16 then wFly m c (k.val + 1) else wRest m c (k.val + 1))
    (fun h => by
      have h8 := (cond2_iff k).mp h
      rw [if_pos h8]
      exact wIssue m c h8 (k0_off14_eq k) (k0_off13_eq k) (k0_off12_eq k) (k := fun _ => _))
    (fun h => by rw [if_neg fun h8 => h ((cond2_iff k).mpr h8)])) $$ [Hw Hany Hv]
  · unfold wRest wAll
    isplitl [Hw]; · iexact Hw
    isplitl [Hany] <;> iassumption
  iintro Hnext
  unfold wHas
  icases Hhas with ⟨%g, Hg, %hg⟩
  iapply (load c (Memref.whole cc0_scratch2) (Rect.unit (s := S2x4096x512) (k0_off15 k) S1x4096x512.size (k0_off15_inb k)) (S := slotSet 4096 (k.val % 2)) (w := wSlot (wA m c) k.val)
    (wRow_set (k0_off15_eq k) _).subset ((wRow_read (k0_off15_eq k) _ g).trans hg)) $$ Hg
  iintro Hg
  iapply (load c (Memref.whole cc0_scratch3) (Rect.unit (s := S4096x512) ![0, 0] S4096x512.size inb_S4096x512_S4096x512_0_0) (Finset.subset_univ _) rfl) $$ H3
  iintro H3
  iapply (store c (Memref.whole cc0_scratch3) (Rect.unit (s := S4096x512) ![0, 0] S4096x512.size inb_S4096x512_S4096x512_0_0)) $$ H3
  iintro ⟨%g3, H3, %h3⟩
  have e3 : g3 = wbBlk (wA m c) k.val := (Memref.readAt_unit_zero (Elt F) cc0_scratch3 zero2 _ g3).symm.trans h3.1
  subst e3
  iapply (load c (Memref.whole cc0_scratch0) (Rect.unit (s := S2048x4096) ![0, 0] S2048x4096.size inb_S2048x4096_S2048x4096_0_0) (Finset.subset_univ _)
    (Memref.readAt_unit_zero (Elt F) cc0_scratch0 zero2 _ _)) $$ Hx
  iintro Hx
  iapply (load c (Memref.whole cc0_scratch3) (Rect.unit (s := S4096x512) ![0, 0] S4096x512.size inb_S4096x512_S4096x512_0_0) (Finset.subset_univ _)
    (Memref.readAt_unit_zero (Elt F) cc0_scratch3 zero2 _ _)) $$ H3
  iintro H3
  iapply (load c (Memref.whole cc0_scratch4) (Rect.unit (s := S2048x512) ![0, 0] S2048x512.size inb_S2048x512_S2048x512_0_0) (Finset.subset_univ _) rfl) $$ H4
  iintro H4
  iapply (store c (Memref.whole cc0_scratch4) (Rect.unit (s := S2048x512) ![0, 0] S2048x512.size inb_S2048x512_S2048x512_0_0)) $$ H4
  iintro ⟨%g4, H4, %h4⟩
  have e4 : g4 = lbBlk (xA m c) (wA m c) k.val := (Memref.readAt_unit_zero (Elt F) cc0_scratch4 zero2 _ g4).symm.trans h4.1
  subst e4
  ihave Hbl := (blocks_store m c (min k.val 8) ⟨k.val, hk⟩ (Nat.min_le_left _ _)) $$ Hbl
  icases Hbl with ⟨⟨%fl, Hl⟩, Hbl⟩
  unfold lbPts
  iapply (issue c (Memref.whole cc0_scratch4) (lbM (k0_off16 k) (k0_off16_inb k)) (Ss := Finset.univ) (Sd := colSet 2048 8192 k.val) lbSem rfl N (lbM_credit _) N_pos
    (View.set_whole _) (lbM_set (k0_off16_eq k) (k0_off16_inb k)).subset) $$ [H4 Hl Hlb]
  · isplitl [H4]; · iexact H4
    isplitl [Hl]; · iexact Hl
    iexact Hlb
  iintro Hfl
  iapply (await c lbSem rfl N (lbM_credit (k0_off16_inb k)) (lvS_local _ (by show 34 ≤ 38; omega)) (hhigh _)) $$ [Hfl HO]
  · isplitl [Hfl]; · iexact Hfl
    isplitl [HO]; · iexact HO
    iexact Hlev
  unfold Landed
  iintro ⟨⟨⟨%gl, Hl, %hl⟩, H4⟩, Hlb, HO⟩
  ihave Hbl := Hbl $$ [Hl]
  · iapply (Entails.of_eq (pointsTo_congr (lb_landed m c hk ((lbM_read (k0_off16_eq k) (k0_off16_inb k) gl).symm.trans hl.1)))) $$ Hl
  iapply (optional c (A := iprop(records m K ∗ blocks m c (min k.val 8) (k.val + 1) ∗ Owes c (Orem c (min k.val 8) + Ost c)))
    (B := iprop(blocks m c (min (k.val + 1) 8) (k.val + 1) ∗ Owes c (Orem c (min (k.val + 1) 8) + Ost c)))
    (fun h => by
      have h8 := (cond3_iff k).mp h
      rw [show min k.val 8 = k.val by omega, show min (k.val + 1) 8 = k.val + 1 by omega]
      exact sendNext m K c _ (dev2_eq c k h) ⟨k.val, hk⟩ (k0_off17_eq k) (k0_off17_eq k) (k0_off18_eq k) (Ost c) (k.val + 1) (Nat.lt_succ_self _) (k := fun _ => _))
    (fun h => by
      have h8 : ¬ k.val < 8 := fun h' => h ((cond3_iff k).mpr h')
      rw [show min k.val 8 = 8 by omega, show min (k.val + 1) 8 = 8 by omega]
      iintro ⟨-, H⟩; iexact H)) $$ [Hbl HO]
  · isplitr; · iexact Hrec
    isplitl [Hbl] <;> iassumption
  iintro ⟨Hbl, HO⟩
  iapply (done c)
  isplitr; · ipureintro; rfl
  isplitr; · iexact Hrec
  isplitr; · iexact Hlev
  isplitl [Hx]; · iexact Hx
  isplitl [H3]; · iexists _; iexact H3
  isplitl [H4]; · iexists _; iexact H4
  isplitl [Hlb]; · iexact Hlb
  isplitl [Hbl]; · iexact Hbl
  isplitl [HO]; · iexact HO
  isplitl [Hnext]; · iexact Hnext
  isplitl [Hg]
  · iapply (Entails.of_eq (wAny_two c k.val).symm)
    unfold wAny; iexists g; iexact Hg
  iapply (Entails.of_eq (congrArg (fun s => semVal (dcell c s) 0) (wSem_two k.val).symm)) $$ Hv'

/-! ## A trip of the third loop -/

/-- Before trip `p`: `8 + p` blocks are sent. -/
def tInv (p : ℕ) (_ : Unit) : sProp 𝕄 := iprop(records m K ∗ blocks m c (p + 8) 16 ∗ Owes c (Orem c (p + 8)))

/-- One trip. -/
theorem tTrip (v5 v8 v9 : BitVec 32) (k : Fin k0_t3_loop.trips) (acc : Unit) :
    tInv m K c k.val acc ⊢ Run c (t3Body (F := F) c v5 v8 v9 k acc) (tInv m K c (k.val + 1)) := by
  have hk := trips3 k
  unfold t3Body k0_t3_body
  simp only [Prog.lift, Prog.bind_op, Prog.bind_ret, Prog.pure_eq_ret]
  unfold tInv
  iintro ⟨#Hrec, Hbl, HO⟩
  iapply (sendNext m K c _ (dev4_eq c) ⟨k.val + 8, hk⟩ (k0_off19_eq k) (k0_off19_eq k)
    ((k0_off20_eq k).trans (by rw [Nat.mul_add])) 0 16 hk) $$ [Hbl HO]
  · isplitr; · iexact Hrec
    isplitl [Hbl]; · iexact Hbl
    iapply (Entails.of_eq (congrArg (Owes c) (add_zero _).symm)) $$ HO
  iintro ⟨Hbl, HO⟩
  iapply (done c)
  isplitr; · iexact Hrec
  have e : k.val + 8 + 1 = k.val + 1 + 8 := by omega
  isplitl [Hbl]
  · iapply (Entails.of_eq (congrArg (fun n => blocks m c n 16) e)) $$ Hbl
  iapply (Entails.of_eq ((congrArg (Owes c) (add_zero _)).trans (congrArg (fun n => Owes c (Orem c n)) e))) $$ HO

end Cert.Fused

end
-- ==== Proof.Finish.lean ====
/-
# The result

The last three loops: the device's half of the result from its own logits, the other half from the peer's as they land, and
the waits that take back what the sends had borrowed.
-/
module

public import proofs.«01_k».proof.Proof.Logits

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

section Bodies
variable (d0 : Dev nD) (v0 v1 : FVec F S2048x1 .f32) (u0 u1 : Vec F S1x2048x1 .f32)
/-- The fourth loop's body, on the kernel's own buffers, -/
abbrev t4Body : Fin k0_t4_loop.trips → Unit → Prog (TpuEff nD τ sig (Elt F) Λ₀ .tc) Unit :=
  k0_t4_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 d0 v0 v1 u0 u1
/-- the fifth's -/
abbrev t5Body : Fin k0_t5_loop.trips → Unit → Prog (TpuEff nD τ sig (Elt F) Λ₀ .tc) Unit :=
  k0_t5_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 d0 v0 v1 u0 u1
/-- and the sixth's. -/
abbrev t6Body : Fin k0_t6_loop.trips → Unit → Prog (TpuEff nD τ sig (Elt F) Λ₀ .tc) Unit :=
  k0_t6_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17
end Bodies

theorem trips4 : ∀ k : Fin k0_t4_loop.trips, k.val < 16 := by decide +kernel
theorem trips5 : ∀ k : Fin k0_t5_loop.trips, k.val < 16 := by decide +kernel
theorem trips6 : ∀ k : Fin k0_t6_loop.trips, k.val < 16 := by decide +kernel

/-! ## One block of the result -/

/-- The staging buffers and semaphores of a block of the result. -/
def stage : sProp 𝕄 := iprop((∃ f, (c : Thread nD τ).loc cc0_scratch5 ↦{fullShare} f) ∗ (∃ f, (c : Thread nD τ).loc cc0_scratch6 ↦{fullShare} f)
  ∗ semVal (dcell c inSem) 0 ∗ semVal (dcell c outSem) 0 ∗ Owes c 0 ∗ levAts L lv)
/-- The result, in place at the blocks of `A`. -/
def outs (A : ℕ → Prop) : sProp 𝕄 := iprop(∃ f : Arr F S2048x16384 .f32, ((c : Thread nD τ).loc main_v1_0 ↦{fullShare} f)
  ∗ ⌜∀ q, A q → ∀ i ∈ colSet 2048 16384 q, f i = outA m c i⌝)

/-- A block of columns of the result. -/
abbrev outM (o : Fin 2 → ℕ) (inb : ∀ a, o a + S2048x512.size a ≤ S2048x16384.size a) : Memref sig .tc .hbm S2048x512 .f32 :=
  (Memref.whole main_v1_0 : Memref sig .tc .hbm S2048x16384 .f32).slice (Rect.unit (s := S2048x16384) o S2048x512.size inb) (fun _ => rfl)
abbrev inM : Memref sig .tc .vmem S2048x512 .bf16 := Memref.whole cc0_scratch5
abbrev upM : Memref sig .tc .vmem S2048x512 .f32 := Memref.whole cc0_scratch6
/-- What the transfers in and out count. -/
def nI : ℕ := inM.view.dmaCredit
def nO : ℕ := (outM ![0, 0] (by decide)).view.dmaCredit
theorem nI_pos : 0 < nI := View.dmaCredit_pos _ (by decide)
theorem nO_pos : 0 < nO := View.dmaCredit_pos _ (by decide)
theorem inM_credit : inM.view.dmaCredit = nI := rfl

section Views
variable {q : ℕ} {o : Fin 2 → ℕ} (ho : o = ![0, 512 * q]) (inb : ∀ a, o a + S2048x512.size a ≤ S2048x16384.size a)
include ho in
theorem outM_set : (outM o inb).view.set = colSet 2048 16384 q := (View.set_slice_whole _ _).trans (rect_set ho inb)
include ho in
theorem outM_read (f : Arr F S2048x16384 .f32) : (outM o inb).view.read (Elt F) f = cut f q := rect_emb ho inb f
theorem outM_credit : (outM o inb).view.dmaCredit = nO := rfl
end Views

/-- What landing block `q` of the result leaves. -/
theorem out_landed {A : ℕ → Prop} {q : ℕ} (hq : 512 * q + 512 ≤ 16384) {f g : Arr F S2048x16384 .f32}
    (hf : ∀ p, A p → ∀ i ∈ colSet 2048 16384 p, f i = outA m c i)
    (hg : cut g q = outBlk (xA m c) (wA m c) (xA m (peer c)) (wA m (peer c)) (c.val / 8) q)
    (hgf : ∀ i, i ∉ colSet 2048 16384 q → g i = f i) :
    ∀ p, (A p ∨ p = q) → ∀ i ∈ colSet 2048 16384 p, g i = outA m c i := by
  intro p hp i hi
  by_cases h : p = q
  · subst h
    exact agree_of_cut (hg.trans (cut_glue _ p hq).symm) i hi
  · rw [hgf i fun h' => h ((mem_colSet.mp hi).symm.trans (mem_colSet.mp h'))]
    exact hf p (hp.resolve_right h) i hi

set_option maxHeartbeats 1000000 in
/-- A block of logits is brought in from `src`, what is computed from it is written to block `q` of the result. -/
theorem emit (src : Memref sig .tc .hbm S2048x512 .bf16) {Ss : Finset (Idx (src.view.loc (c : Thread nD τ)))} (hS : src.view.set = Ss)
    {s : PosShare TreeShare} {fs : Buf (Elt F) (src.view.loc (c : Thread nD τ))} {B : Arr F S2048x512 .bf16} (hB : src.view.read (Elt F) fs = B)
    (G : Arr F S2048x512 .bf16 → Arr F S2048x512 .f32) {q : ℕ} (hq : 512 * q + 512 ≤ 16384)
    (hG : G B = outBlk (xA m c) (wA m c) (xA m (peer c)) (wA m (peer c)) (c.val / 8) q)
    {o : Fin 2 → ℕ} (ho : o = ![0, 512 * q]) {inb : ∀ a, o a + S2048x512.size a ≤ S2048x16384.size a} {A : ℕ → Prop}
    {h₁ h₂ h₃ h₄ h₅ h₆ h₇ h₈ h₉ h₁₀ h₁₁ h₁₂ h₁₃} {Q : Unit → sProp 𝕄} :
    iprop((src.view.loc (c : Thread nD τ) ↦[Ss]{s} fs) ∗ stage c ∗ outs m c A)
      ⊢ iprop((((src.view.loc (c : Thread nD τ) ↦[Ss]{s} fs) ∗ stage c ∗ outs m c (fun p => A p ∨ p = q)) -∗ Q ⟨⟩)
        -∗ Run c (.op (.enqueueDma src (.here inM) (.dma cc0_scratch16.sem) h₁ h₂ h₃) fun _ =>
            .op (.waitDma2 cc0_scratch16.sem src inM h₄ h₅) fun _ =>
            .op (.load inM (Rect.unit (s := S2048x512) ![0, 0] S2048x512.size inb_S2048x512_S2048x512_0_0).toLoadRect h₆) fun v =>
            .op (.load upM (Rect.unit (s := S2048x512) ![0, 0] S2048x512.size inb_S2048x512_S2048x512_0_0).toLoadRect h₇) fun _ =>
            .op (.store upM (Rect.unit (s := S2048x512) ![0, 0] S2048x512.size inb_S2048x512_S2048x512_0_0) (G v) Finset.univ h₈ h₉) fun _ =>
            .op (.enqueueDma upM (.here (outM o inb)) (.dma cc0_scratch17.sem) h₁₀ h₁₁ ⟨Or.inl rfl, trivial⟩) fun _ =>
            .op (.waitDma2 cc0_scratch17.sem upM (outM o inb) h₁₂ h₁₃) fun _ => .ret ⟨⟩) Q) := by
  unfold stage outs
  iintro ⟨Hs, ⟨⟨%f5, H5⟩, ⟨%f6, H6⟩, Hi, Ho, HO, #Hlev⟩, ⟨%f, Hf, %hf⟩⟩ Hk
  iapply (issue c src inM (Ss := Ss) (Sd := Finset.univ) inSem rfl nI inM_credit nI_pos hS (Finset.subset_univ _)) $$ [Hs H5 Hi]
  · isplitl [Hs]; · iexact Hs
    isplitl [H5] <;> iassumption
  iintro Hfl
  iapply (await c inSem rfl nI inM_credit (lvS_local _ (by show 34 ≤ 39; omega)) High.zero) $$ [Hfl HO]
  · isplitl [Hfl]; · iexact Hfl
    isplitl [HO]; · iexact HO
    iexact Hlev
  unfold Landed
  iintro ⟨⟨⟨%g5, H5, %h5⟩, Hs⟩, Hi, HO⟩
  have e5 : g5 = B := h5.1.trans hB
  subst e5
  iapply (load c inM (Rect.unit (s := S2048x512) ![0, 0] S2048x512.size inb_S2048x512_S2048x512_0_0) (Finset.subset_univ _)
    (Memref.readAt_unit_zero (Elt F) cc0_scratch5 zero2 _ _)) $$ H5
  iintro H5
  iapply (load c upM (Rect.unit (s := S2048x512) ![0, 0] S2048x512.size inb_S2048x512_S2048x512_0_0) (Finset.subset_univ _) rfl) $$ H6
  iintro H6
  iapply (store c upM (Rect.unit (s := S2048x512) ![0, 0] S2048x512.size inb_S2048x512_S2048x512_0_0)) $$ H6
  iintro ⟨%g6, H6, %h6⟩
  have e6 : g6 = G g5 := (Memref.readAt_unit_zero (Elt F) cc0_scratch6 zero2 _ g6).symm.trans h6.1
  subst e6
  iapply (issue c upM (outM o inb) (Ss := Finset.univ) (Sd := Finset.univ) outSem rfl nO (outM_credit inb) nO_pos
    (View.set_whole _) (Finset.subset_univ _)) $$ [H6 Hf Ho]
  · isplitl [H6]; · iexact H6
    isplitl [Hf] <;> iassumption
  iintro Hfl
  iapply (await c outSem rfl nO (outM_credit inb) (lvS_local _ (by show 34 ≤ 40; omega)) High.zero) $$ [Hfl HO]
  · isplitl [Hfl]; · iexact Hfl
    isplitl [HO]; · iexact HO
    iexact Hlev
  unfold Landed
  iintro ⟨⟨⟨%g, Hg, %hg⟩, H6⟩, Ho, HO⟩
  iapply (done c)
  iapply Hk
  isplitl [Hs]; · iexact Hs
  isplitl [H5 H6 Hi Ho HO]
  · isplitl [H5]; · iexists _; iexact H5
    isplitl [H6]; · iexists _; iexact H6
    isplitl [Hi]; · iexact Hi
    isplitl [Ho]; · iexact Ho
    isplitl [HO]; · iexact HO
    iexact Hlev
  iexists g
  isplitl [Hg]; · iexact Hg
  ipureintro
  exact out_landed m c hq hf ((outM_read ho inb g).symm.trans (hg.1.trans hG)) (fun i hi => hg.2 i (by rw [outM_set ho inb]; exact hi))

/-- The blocks in place may be named otherwise. -/
theorem outs_mono {A B : ℕ → Prop} (h : ∀ q, B q → A q) : outs m c A ⊢ outs m c B := by
  unfold outs
  iintro ⟨%f, Hf, %hf⟩
  iexists f
  isplitl [Hf]; · iexact Hf
  ipureintro
  exact fun q hq => hf q (h q hq)

/-! ## The device's own half -/

/-- Before trip `p` of the fourth loop. -/
def ownInv (p : ℕ) (_ : Unit) : sProp 𝕄 :=
  iprop(blocks m c 16 16 ∗ stage c ∗ outs m c (fun q => q / 16 = c.val / 8 ∧ q % 16 < p))

/-- One trip. -/
theorem ownTrip (k : Fin k0_t4_loop.trips) (acc : Unit) :
    ownInv m c k.val acc ⊢ Run c (t4Body (F := F) c (stat (xA m c) (wA m c) 16).1 (stat (xA m c) (wA m c) 16).2
      (maxCol (xA m (peer c)) (wA m (peer c))) (sumCol (xA m (peer c)) (wA m (peer c))) k acc) (ownInv m c (k.val + 1)) := by
  have hk := trips4 k
  have hc : c.val < 16 := c.isLt
  unfold t4Body k0_t4_body
  simp only [Prog.lift, Prog.bind_op, Prog.bind_ret, Prog.pure_eq_ret]
  unfold ownInv blocks
  have step := bigSep_step (⟨k.val, hk⟩ : Fin 16) (Φ := blk m c 16 16) (Ψ := blk m c 16 16) (fun _ _ => rfl)
  have e : blk m c 16 16 ⟨k.val, hk⟩ = sent m c ⟨k.val, hk⟩ := if_pos hk
  rw [e] at step
  unfold sent lbPts at step
  iintro ⟨Hb, Hst, Hout⟩
  ihave Hb := step $$ Hb
  icases Hb with ⟨⟨Hc, Hl⟩, Hb⟩
  iapply (emit m c (lbM (k0_off21 k) (k0_off21_inb k)) (lbM_set (k0_off21_eq k) (k0_off21_inb k))
    ((lbM_read (k0_off21_eq k) (k0_off21_inb k) (lbA m c)).trans (cut_glue (lbBlk (xA m c) (wA m c)) k.val (by omega)))
    (fun v => k0_pay4 (stat (xA m c) (wA m c) 16).1 (stat (xA m c) (wA m c) 16).2 (maxCol (xA m (peer c)) (wA m (peer c))) (sumCol (xA m (peer c)) (wA m (peer c))) v)
    (q := 16 * (c.val / 8) + k.val) (by omega)
    (by
      unfold outBlk
      rw [if_pos (by omega), show (16 * (c.val / 8) + k.val) % 16 = k.val by omega]
      rfl)
    ((k0_off22_eq c k).trans (by rw [show 8192 * (c.val / 8) + 512 * k.val = 512 * (16 * (c.val / 8) + k.val) by omega]))) $$ [Hl Hst Hout]
  · isplitl [Hl]; · iexact Hl
    isplitl [Hst] <;> iassumption
  iintro ⟨Hl, Hst, Hout⟩
  isplitl [Hc Hl Hb]
  · iapply Hb
    isplitl [Hc] <;> iassumption
  isplitl [Hst]; · iexact Hst
  iapply (outs_mono m c fun q hq => ?_) $$ Hout
  omega

/-! ## The peer's half -/

/-- Landing `k` before it is waited for, and after. -/
def awaited (p : ℕ) (k : Fin 16) : sProp 𝕄 :=
  if k.val < p then semVal (recvCell c k) 0 else iprop(cred (tallyAt (recvCell c k) () N) ∗ atPos ER (recvCell c k) 0 ∅ 0)
/-- Before trip `p` of the fifth loop. -/
def peerInv (p : ℕ) (_ : Unit) : sProp 𝕄 :=
  iprop(records m K ∗ bigSep Finset.univ (awaited c p) ∗ stage c ∗ outs m c (fun q => q < 32 ∧ (q / 16 = c.val / 8 ∨ q % 16 < p)))

/-- One trip. -/
theorem peerTrip (k : Fin k0_t5_loop.trips) (acc : Unit) :
    peerInv m K c k.val acc ⊢ Run c (t5Body (F := F) c (stat (xA m c) (wA m c) 16).1 (stat (xA m c) (wA m c) 16).2
      (maxCol (xA m (peer c)) (wA m (peer c))) (sumCol (xA m (peer c)) (wA m (peer c))) k acc) (peerInv m K c (k.val + 1)) := by
  have hk := trips5 k
  have hc : c.val < 16 := c.isLt
  unfold t5Body k0_t5_body
  simp only [Prog.lift, Prog.bind_op, Prog.bind_ret, Prog.pure_eq_ret]
  unfold peerInv
  have step := bigSep_step (⟨k.val, hk⟩ : Fin 16) (Φ := awaited (F := F) c k.val) (Ψ := awaited c (k.val + 1)) (fun j hj => by
    have hj' : j.val ≠ k.val := fun e => hj (Fin.ext e)
    have hi : (j.val < k.val) = (j.val < k.val + 1) := propext (by omega)
    unfold awaited
    simp only [hi])
  have e₁ : awaited (F := F) c k.val ⟨k.val, hk⟩ = iprop(cred (tallyAt (recvCell c ⟨k.val, hk⟩) () N) ∗ atPos ER (recvCell c ⟨k.val, hk⟩) 0 ∅ 0) :=
    if_neg (Nat.lt_irrefl _)
  have e₂ : awaited (F := F) c (k.val + 1) ⟨k.val, hk⟩ = semVal (recvCell c ⟨k.val, hk⟩) 0 := if_pos (Nat.lt_succ_self _)
  rw [e₁, e₂] at step
  unfold stage
  iintro ⟨#Hrec, Hb, ⟨H5, H6, Hi, Ho, HO, #Hlev⟩, Hout⟩
  ihave Hb := step $$ Hb
  icases Hb with ⟨⟨Hc, Hat⟩, Hb⟩
  iapply (collect m K c (.inr (.inl ⟨k.val, hk⟩)) (recvSem ⟨k.val, hk⟩) rfl (recvSem_at (k := ⟨k.val, hk⟩) (k0_off23_eq k)) N
    (pbM_credit (k0_off24_inb k)) (amt_recv _)) $$ [Hc HO Hat]
  · isplitr; · iexact Hrec
    isplitl [Hc]; · iexact Hc
    isplitl [HO] <;> iassumption
  rw [pay_recv]
  unfold recvPay pbPts
  iintro ⟨Hp, Hv, HO⟩
  iapply (emit m c (pbM (k0_off24 k) (k0_off24_inb k)) (pbM_set (k0_off24_eq k) (k0_off24_inb k))
    ((pbM_read (k0_off24_eq k) (k0_off24_inb k) (lbA m (peer c))).trans (cut_glue (lbBlk (xA m (peer c)) (wA m (peer c))) k.val (by omega)))
    (fun v => k0_pay5 (stat (xA m c) (wA m c) 16).1 (stat (xA m c) (wA m c) 16).2 (maxCol (xA m (peer c)) (wA m (peer c))) (sumCol (xA m (peer c)) (wA m (peer c))) v)
    (q := 16 * (1 - c.val / 8) + k.val) (by omega)
    (by
      unfold outBlk
      rw [if_neg (by omega), show (16 * (1 - c.val / 8) + k.val) % 16 = k.val by omega]
      rfl)
    ((k0_off25_eq c k).trans (by rw [show (512 * k.val + 8192) - 8192 * (c.val / 8) = 512 * (16 * (1 - c.val / 8) + k.val) by omega]))) $$ [Hp H5 H6 Hi Ho HO Hout]
  · isplitl [Hp]; · iexact Hp
    isplitr [Hout]
    · unfold stage
      isplitl [H5]; · iexact H5
      isplitl [H6]; · iexact H6
      isplitl [Hi]; · iexact Hi
      isplitl [Ho]; · iexact Ho
      isplitl [HO]; · iexact HO
      iexact Hlev
    iexact Hout
  unfold stage
  iintro ⟨-, Hst, Hout⟩
  isplitr; · iexact Hrec
  isplitl [Hv Hb]
  · iapply Hb; iexact Hv
  isplitl [Hst]; · iexact Hst
  iapply (outs_mono m c fun q hq => ?_) $$ Hout
  omega

/-! ## The sends' completions -/

/-- Send `k` before it is waited for, and after. -/
def settled (p : ℕ) (k : Fin 16) : sProp 𝕄 :=
  if k.val < p then semVal (sendCell c k) 0 else iprop(cred (tallyAt (sendCell c k) () N) ∗ atPos ER (sendCell c k) 0 ∅ 0)
/-- Before trip `p` of the sixth loop. -/
def sendInv (p : ℕ) (_ : Unit) : sProp 𝕄 := iprop(records m K ∗ bigSep Finset.univ (settled c p) ∗ Owes c 0)

/-- One trip. -/
theorem sendTrip (k : Fin k0_t6_loop.trips) (acc : Unit) :
    sendInv m K c k.val acc ⊢ Run c (t6Body (F := F) k acc) (sendInv m K c (k.val + 1)) := by
  have hk := trips6 k
  unfold t6Body k0_t6_body
  simp only [Prog.lift, Prog.bind_op, Prog.bind_ret, Prog.pure_eq_ret]
  unfold sendInv
  have step := bigSep_step (⟨k.val, hk⟩ : Fin 16) (Φ := settled (F := F) c k.val) (Ψ := settled c (k.val + 1)) (fun j hj => by
    have hj' : j.val ≠ k.val := fun e => hj (Fin.ext e)
    have hi : (j.val < k.val) = (j.val < k.val + 1) := propext (by omega)
    unfold settled
    simp only [hi])
  have e₁ : settled (F := F) c k.val ⟨k.val, hk⟩ = iprop(cred (tallyAt (sendCell c ⟨k.val, hk⟩) () N) ∗ atPos ER (sendCell c ⟨k.val, hk⟩) 0 ∅ 0) :=
    if_neg (Nat.lt_irrefl _)
  have e₂ : settled (F := F) c (k.val + 1) ⟨k.val, hk⟩ = semVal (sendCell c ⟨k.val, hk⟩) 0 := if_pos (Nat.lt_succ_self _)
  rw [e₁, e₂] at step
  iintro ⟨#Hrec, Hb, HO⟩
  ihave Hb := step $$ Hb
  icases Hb with ⟨⟨Hc, Hat⟩, Hb⟩
  iapply (collect m K c (.inl ⟨k.val, hk⟩) (sendSem ⟨k.val, hk⟩) rfl (sendSem_at (k := ⟨k.val, hk⟩) (k0_off26_eq k)) N
    (lbM_credit (k0_off27_inb k)) (amt_send _)) $$ [Hc HO Hat]
  · isplitr; · iexact Hrec
    isplitl [Hc]; · iexact Hc
    isplitl [HO] <;> iassumption
  iintro ⟨-, Hv, HO⟩
  iapply (done c)
  isplitr; · iexact Hrec
  isplitl [Hv Hb]
  · iapply Hb; iexact Hv
  iexact HO

end Cert.Fused

end
-- ==== Proof.Stats.lean ====
/-
# The statistics

The buffer a device sends its peer: what two stores make of it, and what two loads read of the one that lands.
-/
module

public import proofs.«01_k».proof.Proof.Finish

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

section Slots
variable {o : Fin 3 → ℕ} {w : ℕ}

/-- An index of slot `j` of the statistics, placed. -/
theorem stat_emb {j : ℕ} (hj : j < 2) (hw : w ≤ 128) (inb : ∀ a, (![j, 0, 0] : Fin 3 → ℕ) a + (![1, 2048, w] : Fin 3 → ℕ) a ≤ S2x2048x128.size a)
    (y : (⟨3, ![1, 2048, w]⟩ : Shape).Idx) :
    (Rect.unit (s := S2x2048x128) ![j, 0, 0] ![1, 2048, w] inb).emb y
      = ix3 (n0 := 2) (n1 := 2048) (n2 := 128) ⟨j, hj⟩ (y 1) (⟨(y 2).val, Nat.lt_of_lt_of_le (y 2).isLt hw⟩ : Fin 128) := by
  refine funext fun a => Fin.ext ?_
  have hy : (y 0).val < 1 := (y 0).isLt
  rw [ValueKit.rect_emb_unit_val]
  match a with
  | ⟨0, _⟩ => show j + (y 0).val = j; omega
  | ⟨1, _⟩ => show 0 + (y 1).val = (y 1).val; omega
  | ⟨2, _⟩ => show 0 + (y 2).val = (y 2).val; omega

/-- Slot 1 holds no index of slot 0. -/
theorem stat_not_mem (inb : ∀ a, (![1, 0, 0] : Fin 3 → ℕ) a + S1x2048x128.size a ≤ S2x2048x128.size a) {i : S2x2048x128.Idx} (h : (i 0).val = 0) :
    i ∉ (Rect.unit (s := S2x2048x128) ![1, 0, 0] S1x2048x128.size inb).set := by
  rw [Rect.mem_set_unit]
  intro h'
  have h0 : 1 ≤ (i 0).val := (h' 0).1
  omega
end Slots

abbrev ssM : Memref sig .tc .vmem S2x2048x128 .f32 := Memref.whole cc0_scratch7
abbrev srM : Memref sig .tc .vmem S2x2048x128 .f32 := Memref.whole cc0_scratch8
abbrev statRect (j : ℕ) (inb : ∀ a, (![j, 0, 0] : Fin 3 → ℕ) a + S1x2048x128.size a ≤ S2x2048x128.size a) : Rect S2x2048x128 :=
  Rect.unit (s := S2x2048x128) ![j, 0, 0] S1x2048x128.size inb

/-- The two stores make the statistics buffer. -/
theorem stat_stores {f g : Arr F S2x2048x128 .f32} {in₀ in₁}
    (hf : (ssM.access (statRect 0 in₀)).read (Elt F) f = k0_pay14 (stat (xA m c) (wA m c) 16).1)
    (hg : (ssM.access (statRect 1 in₁)).read (Elt F) g = k0_pay15 (stat (xA m c) (wA m c) 16).2)
    (hgf : ∀ i, i ∉ (ssM.access (statRect 1 in₁)).set → g i = f i) : g = stA m c := by
  have hset : (ssM.access (statRect 1 in₁)).set = (statRect 1 in₁).set := View.set_slice_whole _ _
  rw [hset] at hgf
  funext i
  have hi : (i 0).val < 2 := (i 0).isLt
  unfold stA statBuf
  by_cases h : (i 0).val = 0
  · rw [if_pos h, hgf i (stat_not_mem _ h)]
    have e := congrFun hf (ix3 (n0 := 1) (n1 := 2048) (n2 := 128) 0 (i 1) (i 2))
    refine Eq.trans (congrArg f ?_) e
    refine Eq.trans ?_ (stat_emb (j := 0) (w := 128) (by decide) le_rfl in₀ (ix3 (n0 := 1) (n1 := 2048) (n2 := 128) 0 (i 1) (i 2))).symm
    funext a
    match a with
    | ⟨0, _⟩ => exact Fin.ext h
    | ⟨1, _⟩ => rfl
    | ⟨2, _⟩ => rfl
  · rw [if_neg h]
    have e := congrFun hg (ix3 (n0 := 1) (n1 := 2048) (n2 := 128) 0 (i 1) (i 2))
    refine Eq.trans (congrArg g ?_) e
    refine Eq.trans ?_ (stat_emb (j := 1) (w := 128) (by decide) le_rfl in₁ (ix3 (n0 := 1) (n1 := 2048) (n2 := 128) 0 (i 1) (i 2))).symm
    funext a
    match a with
    | ⟨0, _⟩ => exact Fin.ext (show (i 0).val = 1 by omega)
    | ⟨1, _⟩ => rfl
    | ⟨2, _⟩ => rfl

abbrev laneRect (j : ℕ) (inb : ∀ a, (![j, 0, 0] : Fin 3 → ℕ) a + S1x2048x1.size a ≤ S2x2048x128.size a) : Rect S2x2048x128 :=
  Rect.unit (s := S2x2048x128) ![j, 0, 0] S1x2048x1.size inb

theorem lane_zero (y : S1x2048x1.Idx) (h : (y 2).val < 128) : (⟨(y 2).val, h⟩ : Fin 128) = 0 := by
  have : (y 2).val < 1 := (y 2).isLt
  exact Fin.ext (show (y 2).val = 0 by omega)

/-- Lane 0 of slot 0 is the maximum, -/
theorem max_read (inb) : (srM.access (laneRect 0 inb)).read (Elt F) (stA m c) = maxCol (xA m c) (wA m c) := by
  funext y
  refine (congrArg (stA m c) (stat_emb (j := 0) (w := 1) (by decide) (by decide) inb y)).trans ?_
  rw [lane_zero y]
  rfl
/-- of slot 1 the sum. -/
theorem sum_read (inb) : (srM.access (laneRect 1 inb)).read (Elt F) (stA m c) = sumCol (xA m c) (wA m c) := by
  funext y
  refine (congrArg (stA m c) (stat_emb (j := 1) (w := 1) (by decide) (by decide) inb y)).trans ?_
  rw [lane_zero y]
  rfl

/-- The statistics go to the peer. -/
theorem sendStat (n : Dev nD) (hn : n = peer c) {hsc} {hsrc} {hdst} {hsem} {α : Type} {Q : α → sProp 𝕄}
    {k : PUnit → Prog (TpuEff nD τ sig (Elt F) Λ₀ .tc) α} (O : CellTallies nD τ sig Unit) :
    iprop(records m K ∗ ssPts c (stA m c) ∗ (∃ f, srPts (peer c) f) ∗ Owes c (O + Ost c) ∗ dutyTok ER (ssCell c) 0 () ∗ dutyTok ER (srCell (peer c)) 0 ())
      ⊢ iprop(((cred (tallyAt (ssCell c) () Ns) ∗ Owes c O) -∗ Run c (k ⟨⟩) Q)
        -∗ Run c (.op (.enqueueDma ssM (.remote (Dev.tc n : Thread nD τ) srM (.dma cc0_scratch11.sem) hsc)
          (.dma cc0_scratch12.sem) hsrc hdst hsem) k) Q) := by
  subst hn
  unfold ssPts srPts
  iintro ⟨#Hrec, Hs, ⟨%f, Hd⟩, HO, Ht1, Ht2⟩ Hk
  have hs : ssM.view.set = Finset.univ := View.set_whole _
  have hd : srM.view.set = Finset.univ := View.set_whole _
  iapply (send m K c (peer c) rfl (.inr (.inr 1)) (.inr (.inr 2)) ssSem srSem rfl rfl rfl rfl (src := ssM) (dst := srM) Ns rfl rfl rfl
    (q := fullShare) (fs := stA m c) (fd := f) O
    (by rw [pay_ss, hs]; exact Entails.of_eq rfl)
    (by
      rw [pay_sr, hd, peer_peer]
      unfold srPts
      refine Entails.of_eq (congrArg (fun g => ((peer c : Thread nD τ).loc cc0_scratch8 ↦{fullShare} g : sProp 𝕄)) ?_)
      exact View.write_whole_univ _ _ _)) $$ [Hs Hd HO Ht1 Ht2]
  · isplitr; · iexact Hrec
    isplitl [Hs]; · rw [hs]; iexact Hs
    isplitl [Hd]; · rw [hd]; iexact Hd
    isplitl [HO]; · iexact HO
    isplitl [Ht1] <;> iassumption
  iexact Hk

end Cert.Fused

end
-- ==== Proof.Narrow.lean ====
/-
# Narrowing `x`

The first loop: `x` is brought in by blocks of 512 columns, two staging slots deep, and each block is written narrowed into
the working copy. After it the working copy holds `xb x`.
-/
module

public import proofs.«01_k».proof.Proof.Steps

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The first loop's body, on the kernel's own buffers. -/
abbrev t1Body : Fin k0_t1_loop.trips → Unit → Prog (TpuEff nD τ sig (Elt F) Λ₀ .tc) Unit :=
  k0_t1_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17

/-- `x` in HBM, whole, -/
def xAll : sProp 𝕄 := (c : Thread nD τ).loc main_arg0 ↦{fullShare} xA m c
/-- slot `p mod 2`, holding anything -/
def xAny (p : ℕ) : sProp 𝕄 := iprop(∃ f, (c : Thread nD τ).loc cc0_scratch1 ↦[slotSet 2048 (p % 2)]{fullShare} f)
/-- or block `p`. -/
def xHas (p : ℕ) : sProp 𝕄 := iprop(∃ f : Arr F S2x2048x512 .f32,
  ((c : Thread nD τ).loc cc0_scratch1 ↦[slotSet 2048 (p % 2)]{fullShare} f) ∗ ⌜slotRead f (p % 2) = xSlot (xA m c) p⌝)

/-- Its source, a block of columns of `x`, -/
abbrev xSrc (o : Fin 2 → ℕ) (inb : ∀ a, o a + S2048x512.size a ≤ S2048x4096.size a) : Memref sig .tc .hbm S2048x512 .f32 :=
  (Memref.whole main_arg0 : Memref sig .tc .hbm S2048x4096 .f32).slice (Rect.unit (s := S2048x4096) o S2048x512.size inb) (fun _ => rfl)
/-- a slot, -/
abbrev xRow (o : Fin 3 → ℕ) (inb : ∀ a, o a + S1x2048x512.size a ≤ S2x2048x512.size a) : Memref sig .tc .vmem S1x2048x512 .f32 :=
  (Memref.whole cc0_scratch1 : Memref sig .tc .vmem S2x2048x512 .f32).slice (Rect.unit (s := S2x2048x512) o S1x2048x512.size inb) (fun _ => rfl)
/-- and its destination, the slot as a matrix. -/
abbrev xDst (o : Fin 3 → ℕ) (inb : ∀ a, o a + S1x2048x512.size a ≤ S2x2048x512.size a) : Memref sig .tc .vmem S2048x512 .f32 :=
  (xRow o inb).squeeze S2048x512 squeezes_S1x2048x512_S2048x512
/-- What a staging transfer counts. -/
def nX : ℕ := (xDst ![0, 0, 0] inb_S2x2048x512_S1x2048x512_0_0_0).view.dmaCredit
theorem nX_pos : 0 < nX := View.dmaCredit_pos _ (by decide)

section Views
variable {p : ℕ} {o : Fin 2 → ℕ} (ho : o = ![0, 512 * p]) (inb : ∀ a, o a + S2048x512.size a ≤ S2048x4096.size a)
  {o' : Fin 3 → ℕ} (ho' : o' = ![p % 2, 0, 0]) (inb' : ∀ a, o' a + S1x2048x512.size a ≤ S2x2048x512.size a)
include ho in
theorem xSrc_set : (xSrc o inb).view.set = colSet 2048 4096 p := (View.set_slice_whole _ _).trans (rect_set ho inb)
include ho in
theorem xSrc_read (f : Arr F S2048x4096 .f32) : (xSrc o inb).view.read (Elt F) f = cut f p := rect_emb ho inb f
include ho' in
theorem xRow_set : (xRow o' inb').view.set = slotSet 2048 (p % 2) := (View.set_slice_whole _ _).trans (slot_set ho' inb')
include ho' in
theorem xRow_read (f : Arr F S2x2048x512 .f32) : (xRow o' inb').view.read (Elt F) f = slotRead f (p % 2) := slot_emb ho' inb' f
include ho' in
theorem xDst_set : (xDst o' inb').view.set = slotSet 2048 (p % 2) := (View.set_reshape _ _).trans (xRow_set ho' inb')
include ho' in
theorem xDst_read (f : Arr F S2x2048x512 .f32) : slotRead f (p % 2) = lift numel_x ((xDst o' inb').view.read (Elt F) f) :=
  (xRow_read ho' inb' f).symm.trans (read_of_reshape (xRow o' inb').view numel_x f)
theorem xDst_credit : (xDst o' inb').view.dmaCredit = nX := rfl
end Views

/-- Block `p` on its way into its slot. -/
def xFly (p : ℕ) : sProp 𝕄 :=
  Fly c (xSem p) nX ((c : Thread nD τ).loc main_arg0) (colSet 2048 4096 p) (xA m c) (xHas m c p)
/-- Ready to bring in block `p`. -/
def xRest (p : ℕ) : sProp 𝕄 := iprop(xAll m c ∗ xAny c p ∗ semVal (dcell c (xSem p)) 0)

theorem xSem_two (p : ℕ) : xSem (p + 2) = xSem p := Fin.ext (show 34 + (p + 2) % 2 = 34 + p % 2 by omega)
theorem xAny_two (p : ℕ) : xAny (F := F) c (p + 2) = xAny c p := by unfold xAny; rw [Nat.add_mod_right]

/-- Before trip `p`: blocks below `p` are narrowed, block `p` is on its way. -/
def xInv (p : ℕ) (_ : Unit) : sProp 𝕄 := iprop(
  (∃ f : Arr F S2048x4096 .bf16, ((c : Thread nD τ).loc cc0_scratch0 ↦{fullShare} f) ∗ ⌜∀ q, q < p → ∀ i ∈ colSet 2048 4096 q, f i = xb (xA m c) i⌝)
  ∗ Owes c (O₁ c) ∗ levAts L lv ∗ (if p < 8 then xFly m c p else xRest m c p) ∗ xAny c (p + 1) ∗ semVal (dcell c (xSem (p + 1))) 0)

/-- Block `p` is sent for. -/
theorem xIssue {p : ℕ} (hp : p < 8) {o : Fin 2 → ℕ} (ho : o = ![0, 512 * p]) {o' : Fin 3 → ℕ} (ho' : o' = ![p % 2, 0, 0]) {o'' : Fin 1 → ℕ} (ho'' : o'' = ![p % 2])
    {inb : ∀ a, o a + S2048x512.size a ≤ S2048x4096.size a} {inb' : ∀ a, o' a + S1x2048x512.size a ≤ S2x2048x512.size a}
    {inb'' : ∀ i, o'' i + S1.size i ≤ S2.size i} {hsrc} {hdst} {hsem} {α : Type} {Q : α → sProp 𝕄}
    {k : PUnit → Prog (TpuEff nD τ sig (Elt F) Λ₀ .tc) α} :
    xRest m c p ⊢ iprop((xFly m c p -∗ Run c (k ⟨⟩) Q) -∗ Run c (.op (.enqueueDma
      (xSrc o inb) (.here (xDst o' inb'))
      (.dma ((cc0_scratch13.slice (Rect.unit (s := S2) o'' S1.size inb'')).squeeze S_ squeezes_S1_S_).sem) hsrc hdst hsem) k) Q) := by
  unfold xRest xAll xAny xFly
  exact fetch c (xSrc o inb) (xDst o' inb') (xSem p) (xSem_at ho'') nX (xDst_credit inb') nX_pos (xSrc_set ho inb) (xDst_set ho' inb')
    fun g hg => by
      unfold xHas
      iintro Hg
      iexists g
      isplitl [Hg]; · iexact Hg
      ipureintro
      rw [xDst_read ho' inb', hg, xSrc_read ho inb]
      rfl

theorem cond1_iff : ∀ k : Fin k0_t1_loop.trips, k0_cond1 k = 1#1 ↔ k.val + 1 < 8 := by decide +kernel
theorem trips1 : ∀ k : Fin k0_t1_loop.trips, k.val < 8 := by decide +kernel

/-- What a store of block `p` of the working copy leaves. -/
theorem xb_store {p : ℕ} (hp : p < 8) {f g : Arr F S2048x4096 .bf16} {w : Arr F S2048x512 .bf16} (hw : w = xbBlk (xA m c) p)
    (hf : ∀ q, q < p → ∀ i ∈ colSet 2048 4096 q, f i = xb (xA m c) i)
    (hg : cut g p = w) (hgf : ∀ i, i ∉ colSet 2048 4096 p → g i = f i) :
    ∀ q, q < p + 1 → ∀ i ∈ colSet 2048 4096 q, g i = xb (xA m c) i := by
  intro q hq i hi
  rcases Nat.lt_succ_iff_lt_or_eq.mp hq with h | h
  · rw [hgf i fun h' => (Nat.ne_of_lt h) ((mem_colSet.mp hi).symm.trans (mem_colSet.mp h')), hf q h i hi]
  · subst h
    refine agree_of_cut ?_ i hi
    rw [hg, hw]
    exact (cut_glue _ q (by omega)).symm

/-- One trip. -/
theorem xTrip (k : Fin k0_t1_loop.trips) (acc : Unit) : xInv m c k.val acc ⊢ Run c (t1Body (F := F) k acc) (xInv m c (k.val + 1)) := by
  have hk := trips1 k
  unfold t1Body k0_t1_body
  simp only [Prog.lift, Prog.bind_op, Prog.bind_ret, Prog.pure_eq_ret]
  unfold xInv
  rw [if_pos hk]
  iintro ⟨⟨%f, Hb, %hf⟩, HO, #Hlev, Hfly, Hany, Hv⟩
  iapply (land c (xSem k.val) (xSem_at (k0_off1_eq k)) rfl (Nat.le_add_right 34 _) (High.O₁ c)) $$ [Hfly HO]
  · unfold xFly; isplitl [Hfly]; · iexact Hfly
    isplitl [HO]; · iexact HO
    iexact Hlev
  iintro ⟨Hhas, Hx, Hv', HO⟩
  iapply (optional c (A := xRest m c (k.val + 1)) (B := if k.val + 1 < 8 then xFly m c (k.val + 1) else xRest m c (k.val + 1))
    (fun h => by
      have h8 := (cond1_iff k).mp h
      rw [if_pos h8]
      exact xIssue m c h8 (k0_off6_eq k) (k0_off5_eq k) (k0_off4_eq k) (k := fun _ => _))
    (fun h => by rw [if_neg fun h8 => h ((cond1_iff k).mpr h8)])) $$ [Hx Hany Hv]
  · unfold xRest xAll
    isplitl [Hx]; · iexact Hx
    isplitl [Hany] <;> iassumption
  iintro Hnext
  unfold xHas
  icases Hhas with ⟨%g, Hg, %hg⟩
  iapply (load c (Memref.whole cc0_scratch1) (Rect.unit (s := S2x2048x512) (k0_off7 k) S1x2048x512.size (k0_off7_inb k)) (S := slotSet 2048 (k.val % 2)) (w := xSlot (xA m c) k.val)
    (xRow_set (k0_off7_eq k) _).subset ((xRow_read (k0_off7_eq k) _ g).trans hg)) $$ Hg
  iintro Hg
  iapply (load c (Memref.whole cc0_scratch0) (Rect.unit (s := S2048x4096) (k0_off8 k) S2048x512.size (k0_off8_inb k)) (Finset.subset_univ _) rfl) $$ Hb
  iintro Hb
  iapply (store c (Memref.whole cc0_scratch0) (Rect.unit (s := S2048x4096) (k0_off8 k) S2048x512.size (k0_off8_inb k))) $$ Hb
  iintro ⟨%f', Hb, %hf'⟩
  iapply (done c)
  have hset : ((Memref.whole cc0_scratch0 : Memref sig .tc .vmem S2048x4096 .bf16).access
      (Rect.unit (s := S2048x4096) (k0_off8 k) S2048x512.size (k0_off8_inb k))).set = colSet 2048 4096 k.val :=
    (View.set_slice_whole _ _).trans (rect_set (k0_off8_eq k) (k0_off8_inb k))
  have hcut := rect_emb (R := 2048) (C := 4096) (k0_off8_eq k) (k0_off8_inb k) f'
  isplitl [Hb]
  · iexists f'
    isplitl [Hb]; · iexact Hb
    ipureintro
    exact xb_store m c hk rfl hf (hcut.symm.trans hf'.1) (fun i hi => hf'.2 i (by rw [hset]; exact hi))
  isplitl [HO]; · iexact HO
  isplitr; · iexact Hlev
  isplitl [Hnext]; · iexact Hnext
  isplitl [Hg]
  · iapply (Entails.of_eq (xAny_two c k.val).symm)
    unfold xAny; iexists g; iexact Hg
  iapply (Entails.of_eq (congrArg (fun s => semVal (dcell c s) 0) (xSem_two k.val).symm)) $$ Hv'

end Cert.Fused

end
-- ==== Proof.Body.lean ====
/-
# The run of one device

The kernel's three parts, each from what it needs to what it leaves, and the kernel from them.
-/
module

public import proofs.«01_k».proof.Proof.Stats
public import proofs.«01_k».proof.Proof.Narrow

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A counted loop, by an invariant. -/
theorem loop {σ : Type} {W : ℕ} {l : Scf.Loop W} {hok : Scf.OK l.lb l.ub l.st} {init : σ}
    {body : Fin l.trips → σ → Prog (TpuEff nD τ sig (Elt F) Λ₀ .tc) σ} (n : ℕ) (hn : l.trips = n) (I : ℕ → σ → sProp 𝕄)
    (h : ∀ (k : Fin l.trips) acc, I k.val acc ⊢ Run c (body k acc) (I (k.val + 1)))
    {α : Type} {Q : α → sProp 𝕄} {k : σ → Prog (TpuEff nD τ sig (Elt F) Λ₀ .tc) α} :
    I 0 init ⊢ iprop((∀ acc, I n acc -∗ Run c (k acc) Q) -∗ Run c (Scf.Loop.for l hok init body >>= k) Q) := by
  subst hn
  exact Scf.wp_for_bind frame (wpE (defs₀ (F := F)) 𝒱₀ (c : Thread nD τ) none) Set.univ l.lb l.ub l.st hok init body I h

/-- One part after another. -/
theorem andThen {α β : Type} {p : Prog (TpuEff nD τ sig (Elt F) Λ₀ .tc) α} {k : α → Prog (TpuEff nD τ sig (Elt F) Λ₀ .tc) β} {Q : β → sProp 𝕄} :
    Run c p (fun a => Run c (k a) Q) ⊢ Run c (p >>= k) Q := by
  unfold Run
  rw [wp_bind]

/-! ## Buffers cut and rejoined -/

/-- A buffer of 8192 columns, by blocks. -/
theorem cutBlocks (b : Ref sig .tc) {f : Buf (Elt F) ((c : Thread nD τ).loc b)} (P : Fin 16 → Finset (Idx ((c : Thread nD τ).loc b)))
    (hd : ∀ j ∈ Finset.univ, ∀ k ∈ Finset.univ, j ≠ k → Disjoint (P j) (P k)) (hu : Finset.univ.biUnion P = Finset.univ) :
    ((c : Thread nD τ).loc b ↦{fullShare} f : sProp 𝕄) ⊢ bigSep Finset.univ fun k : Fin 16 => iprop(∃ f, (c : Thread nD τ).loc b ↦[P k]{fullShare} f) := by
  have e : ((c : Thread nD τ).loc b ↦{fullShare} f : sProp 𝕄) = bigSep Finset.univ fun k : Fin 16 => (c : Thread nD τ).loc b ↦[P k]{fullShare} f := by
    rw [← pointsTo_biUnion _ _ hd, hu]
  rw [e]
  exact bigSep_mono fun k _ => exists_intro (Φ := fun f => (c : Thread nD τ).loc b ↦[P k]{fullShare} f) f

theorem cols_disjoint {R C : ℕ} (j : Fin 16) (_ : j ∈ (Finset.univ : Finset (Fin 16))) (k : Fin 16) (_ : k ∈ (Finset.univ : Finset (Fin 16))) (h : j ≠ k) :
    Disjoint (colSet R C j.val) (colSet R C k.val) := colSet_disjoint fun e => h (Fin.ext e)

/-- The device's logits buffer -/
theorem lbCut : iprop(∃ f, (c : Thread nD τ).loc main_v1_1 ↦{fullShare} f) ⊢ bigSep Finset.univ fun k : Fin 16 => iprop(∃ f, lbPts (F := F) c k.val fullShare f) := by
  iintro ⟨%f, H⟩
  iapply (cutBlocks c main_v1_1 (fun k => colSet 2048 8192 k.val) cols_disjoint (colSet_biUnion 16 rfl)) $$ H
/-- and its landing buffer, so cut. -/
theorem pbCut : iprop(∃ f, (c : Thread nD τ).loc main_v1_2 ↦{fullShare} f) ⊢ bigSep Finset.univ fun k : Fin 16 => iprop(∃ f, pbPts (F := F) c k.val f) := by
  iintro ⟨%f, H⟩
  iapply (cutBlocks c main_v1_2 (fun k => colSet 2048 8192 k.val) cols_disjoint (colSet_biUnion 16 rfl)) $$ H

/-- A buffer in two parts, -/
theorem cutTwo (b : Ref sig .tc) {S T : Finset (Idx ((c : Thread nD τ).loc b))} (hd : Disjoint S T) (hu : S ∪ T = Finset.univ) :
    iprop(∃ f, (c : Thread nD τ).loc b ↦{fullShare} f : sProp 𝕄)
      ⊢ iprop((∃ f, (c : Thread nD τ).loc b ↦[S]{fullShare} f) ∗ ∃ f, (c : Thread nD τ).loc b ↦[T]{fullShare} f) := by
  rw [← hu]
  iintro ⟨%f, H⟩
  ihave H := (pointsTo_union hd).1 $$ H
  icases H with ⟨H₁, H₂⟩
  isplitl [H₁] <;> (iexists f; iassumption)
/-- and of two parts. -/
theorem joinTwo (b : Ref sig .tc) {S T : Finset (Idx ((c : Thread nD τ).loc b))} (hd : Disjoint S T) (hu : S ∪ T = Finset.univ) :
    iprop((∃ f, (c : Thread nD τ).loc b ↦[S]{fullShare} f) ∗ ∃ f, (c : Thread nD τ).loc b ↦[T]{fullShare} f)
      ⊢ iprop(∃ f, (c : Thread nD τ).loc b ↦{fullShare} f : sProp 𝕄) := by
  rw [← hu]
  iintro ⟨⟨%f, H₁⟩, %g, H₂⟩
  iexists _
  iapply (pointsTo_join hd)
  isplitl [H₁] <;> iassumption

theorem xCut : iprop(∃ f, (c : Thread nD τ).loc cc0_scratch1 ↦{fullShare} f) ⊢ iprop(xAny (F := F) c 0 ∗ xAny c 1) :=
  cutTwo c cc0_scratch1 (S := slotSet 2048 0) (T := slotSet 2048 1) (slotSet_disjoint (by decide)) slotSet_union
theorem xJoin : iprop(xAny (F := F) c 8 ∗ xAny c 9) ⊢ iprop(∃ f, (c : Thread nD τ).loc cc0_scratch1 ↦{fullShare} f) :=
  joinTwo c cc0_scratch1 (S := slotSet 2048 0) (T := slotSet 2048 1) (slotSet_disjoint (by decide)) slotSet_union
theorem wCut : iprop(∃ f, (c : Thread nD τ).loc cc0_scratch2 ↦{fullShare} f) ⊢ iprop(wAny (F := F) c 0 ∗ wAny c 1) :=
  cutTwo c cc0_scratch2 (S := slotSet 4096 0) (T := slotSet 4096 1) (slotSet_disjoint (by decide)) slotSet_union
theorem wJoin : iprop(wAny (F := F) c 16 ∗ wAny c 17) ⊢ iprop(∃ f, (c : Thread nD τ).loc cc0_scratch2 ↦{fullShare} f) :=
  joinTwo c cc0_scratch2 (S := slotSet 4096 0) (T := slotSet 4096 1) (slotSet_disjoint (by decide)) slotSet_union

theorem trips1_eq : k0_t1_loop.trips = 8 := by decide +kernel
theorem trips2_eq : k0_t2_loop.trips = 16 := by decide +kernel
theorem trips3_eq : k0_t3_loop.trips = 8 := by decide +kernel
theorem trips4_eq : k0_t4_loop.trips = 16 := by decide +kernel
theorem trips5_eq : k0_t5_loop.trips = 16 := by decide +kernel
theorem trips6_eq : k0_t6_loop.trips = 16 := by decide +kernel
theorem dev1_eq : (⟨k0_dev1 c, k0_dev1_lt c⟩ : Dev nD) = peer c :=
  Fin.ext ((k0_dev1_eq c).trans ((by decide : ∀ c : Dev nD, (4 * ((c.val / 4) % 2) + (c.val % 4) + 8) - 8 * (c.val / 8) = (peer c).val) c))
theorem dev3_eq : (⟨k0_dev3 c, k0_dev3_lt c⟩ : Dev nD) = peer c :=
  Fin.ext ((k0_dev3_eq c).trans ((by decide : ∀ c : Dev nD, (4 * ((c.val / 4) % 2) + (c.val % 4) + 8) - 8 * (c.val / 8) = (peer c).val) c))

/-! ## The handshake and the narrowing -/

/-- What the first part needs besides the records, -/
def firstPre : sProp 𝕄 := iprop(Owes c (O₀ c) ∗ dutyTok ER (barCell (peer c)) 0 () ∗ cred (tallyAt (barCell c) () 1) ∗ atPos ER (barCell c) 0 ∅ 0
  ∗ (∃ f, (c : Thread nD τ).loc main_v1_2 ↦{fullShare} f) ∗ (∃ f, srPts c f) ∗ xAll m c
  ∗ (∃ f, (c : Thread nD τ).loc cc0_scratch0 ↦{fullShare} f) ∗ (∃ f, (c : Thread nD τ).loc cc0_scratch1 ↦{fullShare} f)
  ∗ semVal (dcell c (xSem 0)) 0 ∗ semVal (dcell c (xSem 1)) 0)
/-- and leaves. -/
def firstPost : sProp 𝕄 := iprop(Owes c (O₁ c) ∗ semVal (barCell c) 0 ∗ barPay c ∗ xAll m c
  ∗ ((c : Thread nD τ).loc cc0_scratch0 ↦{fullShare} xb (xA m c)) ∗ (∃ f, (c : Thread nD τ).loc cc0_scratch1 ↦{fullShare} f)
  ∗ semVal (dcell c (xSem 0)) 0 ∗ semVal (dcell c (xSem 1)) 0)

/-- Whole contents from the blocks'. -/
theorem all_cols {f g : Arr F S2048x4096 .bf16} (h : ∀ q, q < 8 → ∀ i ∈ colSet 2048 4096 q, f i = g i) : f = g := by
  funext i
  have hi : (i 1).val < 4096 := (i 1).isLt
  exact h ((i 1).val / 512) (by omega) i (mem_colSet.mpr rfl)

theorem first {Q : (Σ' (d0 : Dev nD) (v2 : BitVec 32) (v5 : BitVec 32) (v8 : BitVec 32), BitVec 32) → sProp 𝕄} :
    iprop(records m K ∗ levAts L lv ∗ firstPre m c)
      ⊢ iprop((∀ v2 v5 v8 v9, firstPost m c -∗ Q ⟨c, v2, v5, v8, v9⟩) -∗ Run c (k0_part2 (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17) Q) := by
  simp only [k0_part2_eq_skeleton]
  unfold k0_part2_skel
  simp only [semSignalWord, semWaitWord, Prog.lift, Prog.bind_op, Prog.bind_ret, Prog.pure_eq_ret, wp_deviceId]
  unfold firstPre
  iintro ⟨#Hrec, #Hlev, HO, Ht, Hc, Hat, Hpb, Hsr, Hx, ⟨%f0, H0⟩, H1, Hv0, Hv1⟩ Hk
  iapply (signalPeer m K c _ (dev1_eq c)) $$ [HO Ht Hpb Hsr]
  · isplitr; · iexact Hrec
    isplitl [HO]; · iexact HO
    isplitl [Ht]; · iexact Ht
    unfold barPay
    rw [peer_peer]
    isplitl [Hpb]; · iapply (pbCut c) $$ Hpb
    iexact Hsr
  iintro HO
  iapply (collectBar m K c (High.O₁ c)) $$ [Hc HO Hat]
  · isplitr; · iexact Hrec
    isplitl [Hc]; · iexact Hc
    isplitl [HO]; · iexact HO
    isplitr; · iexact Hlev
    iexact Hat
  iintro ⟨Hbar, Hvb, HO⟩
  ihave H1 := (xCut c) $$ H1
  icases H1 with ⟨Ha, Hb⟩
  iapply (xIssue m c (p := 0) (by decide) (by decide) (by decide) (by decide)) $$ [Hx Ha Hv0]
  · unfold xRest
    isplitl [Hx]; · iexact Hx
    isplitl [Ha] <;> iassumption
  iintro Hfly
  iapply (loop c 8 trips1_eq (xInv m c) (xTrip m c)) $$ [H0 HO Hfly Hb Hv1]
  · unfold xInv
    isplitl [H0]
    · iexists f0
      isplitl [H0]; · iexact H0
      ipureintro
      exact fun q hq => absurd hq (Nat.not_lt_zero q)
    isplitl [HO]; · iexact HO
    isplitr; · iexact Hlev
    rw [if_pos (by decide)]
    isplitl [Hfly]; · iexact Hfly
    isplitl [Hb] <;> iassumption
  iintro %acc Hinv
  unfold xInv
  rw [if_neg (by decide)]
  unfold xRest
  icases Hinv with ⟨⟨%f, H0, %hf⟩, HO, -, ⟨Hx, Ha, Hv0⟩, Hb, Hv1⟩
  have e := all_cols hf
  subst e
  iapply (done c)
  iapply Hk
  unfold firstPost
  isplitl [HO]; · iexact HO
  isplitl [Hvb]; · iexact Hvb
  isplitl [Hbar]; · iexact Hbar
  isplitl [Hx]; · iexact Hx
  isplitl [H0]; · iexact H0
  isplitl [Ha Hb]
  · iapply (xJoin c)
    isplitl [Ha] <;> iassumption
  isplitl [Hv0]
  · iexact Hv0
  iexact Hv1

/-! ## The logits and the exchange -/

/-- What the second part needs besides the records, -/
def midPre : sProp 𝕄 := iprop(Owes c (O₁ c) ∗ wAll m c ∗ (∃ f, (c : Thread nD τ).loc cc0_scratch2 ↦{fullShare} f)
  ∗ semVal (dcell c (wSem 0)) 0 ∗ semVal (dcell c (wSem 1)) 0 ∗ ((c : Thread nD τ).loc cc0_scratch0 ↦{fullShare} xb (xA m c))
  ∗ (∃ f, (c : Thread nD τ).loc cc0_scratch3 ↦{fullShare} f) ∗ (∃ f, (c : Thread nD τ).loc cc0_scratch4 ↦{fullShare} f)
  ∗ semVal (dcell c lbSem) 0 ∗ blocks m c 0 0 ∗ (∃ f, ssPts c f) ∗ (∃ f, srPts (peer c) f)
  ∗ dutyTok ER (ssCell c) 0 () ∗ dutyTok ER (srCell (peer c)) 0 () ∗ cred (tallyAt (srCell c) () Ns) ∗ atPos ER (srCell c) 0 ∅ 0)
/-- and leaves. -/
def midPost : sProp 𝕄 := iprop(Owes c 0 ∗ wAll m c ∗ (∃ f, (c : Thread nD τ).loc cc0_scratch2 ↦{fullShare} f)
  ∗ semVal (dcell c (wSem 0)) 0 ∗ semVal (dcell c (wSem 1)) 0 ∗ (∃ f, (c : Thread nD τ).loc cc0_scratch0 ↦{fullShare} f)
  ∗ (∃ f, (c : Thread nD τ).loc cc0_scratch3 ↦{fullShare} f) ∗ (∃ f, (c : Thread nD τ).loc cc0_scratch4 ↦{fullShare} f)
  ∗ semVal (dcell c lbSem) 0 ∗ blocks m c 16 16 ∗ srPts c (stA m (peer c)) ∗ semVal (srCell c) 0
  ∗ cred (tallyAt (ssCell c) () Ns))

set_option maxHeartbeats 1000000 in
theorem mid (v5 v8 v9 : BitVec 32) {Q : (Σ' (v31_0 : FVec F S2048x1 .f32), FVec F S2048x1 .f32) → sProp 𝕄} :
    iprop(records m K ∗ levAts L lv ∗ midPre m c)
      ⊢ iprop((midPost m c -∗ Q ⟨(stat (xA m c) (wA m c) 16).1, (stat (xA m c) (wA m c) 16).2⟩)
        -∗ Run c (k0_part3 (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 c v5 v8 v9) Q) := by
  simp only [k0_part3_eq_skeleton]
  unfold k0_part3_skel
  simp only [Prog.lift, Prog.bind_op, Prog.bind_ret, Prog.pure_eq_ret]
  unfold midPre
  iintro ⟨#Hrec, #Hlev, HO, Hw, H2, Hv0, Hv1, H0, H3, H4, Hlb, Hbl, ⟨%f7, H7⟩, Hsr, Ht1, Ht2, Hc, Hat⟩ Hk
  ihave H2 := (wCut c) $$ H2
  icases H2 with ⟨Ha, Hb⟩
  iapply (wIssue m c (p := 0) (by decide) (by decide) (by decide) (by decide)) $$ [Hw Ha Hv0]
  · unfold wRest
    isplitl [Hw]; · iexact Hw
    isplitl [Ha] <;> iassumption
  iintro Hfly
  iapply (loop c 16 trips2_eq (wInv m K c) (wTrip m K c v5 v8 v9)) $$ [H0 H3 H4 Hlb Hbl HO Hfly Hb Hv1]
  · unfold wInv
    isplitr; · ipureintro; rfl
    isplitr; · iexact Hrec
    isplitr; · iexact Hlev
    isplitl [H0]; · iexact H0
    isplitl [H3]; · iexact H3
    isplitl [H4]; · iexact H4
    isplitl [Hlb]; · iexact Hlb
    isplitl [Hbl]; · iexact Hbl
    isplitl [HO]; · unfold O₁; iexact HO
    rw [if_pos (by decide)]
    isplitl [Hfly]; · iexact Hfly
    isplitl [Hb] <;> iassumption
  iintro %acc Hinv
  obtain ⟨a, b⟩ := acc
  unfold wInv
  rw [if_neg (by decide)]
  unfold wRest
  icases Hinv with ⟨%hacc, -, -, H0, H3, H4, Hlb, Hbl, HO, ⟨Hw, Ha, Hv0⟩, Hb, Hv1⟩
  obtain ⟨rfl, rfl⟩ : a = (stat (xA m c) (wA m c) 16).1 ∧ b = (stat (xA m c) (wA m c) 16).2 := ⟨congrArg Prod.fst hacc, congrArg Prod.snd hacc⟩
  unfold ssPts
  iapply (load c ssM (statRect 0 inb_S2x2048x128_S1x2048x128_0_0_0) (Finset.subset_univ _) rfl) $$ H7
  iintro H7
  iapply (store c ssM (statRect 0 inb_S2x2048x128_S1x2048x128_0_0_0)) $$ H7
  iintro ⟨%g7, H7, %h7⟩
  iapply (load c ssM (statRect 1 inb_S2x2048x128_S1x2048x128_1_0_0) (Finset.subset_univ _) rfl) $$ H7
  iintro H7
  iapply (store c ssM (statRect 1 inb_S2x2048x128_S1x2048x128_1_0_0)) $$ H7
  iintro ⟨%g7', H7, %h7'⟩
  have e7 : g7' = stA m c := stat_stores m c h7.1 h7'.1 h7'.2
  subst e7
  iapply (sendStat m K c _ (dev3_eq c) (Orem c 8)) $$ [H7 Hsr HO Ht1 Ht2]
  · isplitr; · iexact Hrec
    isplitl [H7]; · unfold ssPts; iexact H7
    isplitl [Hsr]; · iexact Hsr
    isplitl [HO]; · iexact HO
    isplitl [Ht1] <;> iassumption
  iintro ⟨Hcs, HO⟩
  iapply (loop c 8 trips3_eq (tInv m K c) (tTrip m K c v5 v8 v9)) $$ [Hbl HO]
  · unfold tInv
    isplitr; · iexact Hrec
    isplitl [Hbl]; · iexact Hbl
    iexact HO
  iintro %_u Hinv
  unfold tInv
  icases Hinv with ⟨-, Hbl, HO⟩
  ihave HO := (Entails.of_eq (congrArg (Owes c) (Orem_end c))) $$ HO
  iapply (collect m K c (.inr (.inr 2)) srSem rfl rfl Ns rfl rfl) $$ [Hc HO Hat]
  · isplitr; · iexact Hrec
    isplitl [Hc]; · iexact Hc
    isplitl [HO] <;> iassumption
  rw [pay_sr]
  iintro ⟨Hsr, Hvs, HO⟩
  iapply (done c)
  iapply Hk
  unfold midPost
  isplitl [HO]; · iexact HO
  isplitl [Hw]; · iexact Hw
  isplitl [Ha Hb]
  · iapply (wJoin c)
    isplitl [Ha] <;> iassumption
  isplitl [Hv0]; · iexact Hv0
  isplitl [Hv1]; · iexact Hv1
  isplitl [H0]; · iexists _; iexact H0
  isplitl [H3]; · iexact H3
  isplitl [H4]; · iexact H4
  isplitl [Hlb]; · iexact Hlb
  isplitl [Hbl]; · iexact Hbl
  isplitl [Hsr]; · iexact Hsr
  isplitl [Hvs]; · iexact Hvs
  iexact Hcs

end Cert.Fused

end
-- ==== Proof.Whole.lean ====
/-
# The whole run of one device

The kernel's body, from what a launch gives a device to the result in place and every semaphore at
zero.
-/
module

public import proofs.«01_k».proof.Proof.Body

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- The exchange's cells, in order. -/
theorem cells_split (Φ : CI → sProp 𝕄) : bigSep Finset.univ Φ
    = iprop((bigSep Finset.univ fun k => Φ (.inl k)) ∗ (bigSep Finset.univ fun k => Φ (.inr (.inl k)))
      ∗ Φ (.inr (.inr 0)) ∗ Φ (.inr (.inr 1)) ∗ Φ (.inr (.inr 2))) := by
  have e : (bigSep Finset.univ fun j : Fin 3 => Φ (.inr (.inr j))) = iprop(Φ (.inr (.inr 0)) ∗ Φ (.inr (.inr 1)) ∗ Φ (.inr (.inr 2))) :=
    bigSep_univ_eq_bigSepL [0, 1, 2] (by decide) (by decide) _
  rw [← e, bigSep_univ_sum, bigSep_univ_sum]
  rfl

/-- The duties that a device keeps or is handed by its peer: it pays them all. -/
def toks : sProp 𝕄 := iprop((bigSep Finset.univ fun k : Fin 16 => dutyTok ER (sendCell c k) 0 ())
  ∗ (bigSep Finset.univ fun k : Fin 16 => dutyTok ER (recvCell (peer c) k) 0 ())
  ∗ dutyTok ER (barCell (peer c)) 0 () ∗ dutyTok ER (ssCell c) 0 () ∗ dutyTok ER (srCell (peer c)) 0 ())
/-- What its peer owes a device. -/
def creds : sProp 𝕄 := iprop(cred (tallyAt (barCell c) () 1) ∗ (bigSep Finset.univ fun k : Fin 16 => cred (tallyAt (recvCell c k) () N))
  ∗ cred (tallyAt (srCell c) () Ns))
/-- The semaphores that no other device reaches. -/
def locals : sProp 𝕄 := iprop(semVal (dcell c (xSem 0)) 0 ∗ semVal (dcell c (xSem 1)) 0 ∗ semVal (dcell c (wSem 0)) 0 ∗ semVal (dcell c (wSem 1)) 0
  ∗ semVal (dcell c lbSem) 0 ∗ semVal (dcell c inSem) 0 ∗ semVal (dcell c outSem) 0)
/-- The scratch buffers. -/
def scratch : sProp 𝕄 := iprop((∃ f, (c : Thread nD τ).loc cc0_scratch0 ↦{fullShare} f) ∗ (∃ f, (c : Thread nD τ).loc cc0_scratch1 ↦{fullShare} f) ∗ (∃ f, (c : Thread nD τ).loc cc0_scratch2 ↦{fullShare} f) ∗ (∃ f, (c : Thread nD τ).loc cc0_scratch3 ↦{fullShare} f) ∗ (∃ f, (c : Thread nD τ).loc cc0_scratch4 ↦{fullShare} f) ∗ (∃ f, (c : Thread nD τ).loc cc0_scratch5 ↦{fullShare} f) ∗ (∃ f, (c : Thread nD τ).loc cc0_scratch6 ↦{fullShare} f) ∗ (∃ f, (c : Thread nD τ).loc cc0_scratch7 ↦{fullShare} f) ∗ (∃ f, (c : Thread nD τ).loc cc0_scratch8 ↦{fullShare} f))

/-- What a device starts from, besides the records, -/
def wholePre : sProp 𝕄 := iprop(Owes c (O₀ c) ∗ toks c ∗ creds c ∗ (bigSep Finset.univ fun i : CI => atPos ER (kcell (c, i)) 0 ∅ 0)
  ∗ (xAll m c ∗ wAll m c ∗ (∃ f, (c : Thread nD τ).loc main_v1_0 ↦{fullShare} f) ∗ (∃ f, (c : Thread nD τ).loc main_v1_1 ↦{fullShare} f)
    ∗ (∃ f, (c : Thread nD τ).loc main_v1_2 ↦{fullShare} f))
  ∗ scratch c ∗ locals c)
/-- and ends with. -/
def wholePost : sProp 𝕄 := iprop(Owes c 0 ∗ (xAll m c ∗ wAll m c ∗ ((c : Thread nD τ).loc main_v1_0 ↦{fullShare} outA m c))
  ∗ scratch c ∗ (bigSep Finset.univ fun i : CI => semVal (kcell (c, i)) 0) ∗ locals c)

/-- No block computed, none sent. -/
theorem blocks_start :
    iprop((bigSep Finset.univ fun k : Fin 16 => dutyTok ER (sendCell c k) 0 ()) ∗ (bigSep Finset.univ fun k : Fin 16 => dutyTok ER (recvCell (peer c) k) 0 ())
      ∗ (bigSep Finset.univ fun k : Fin 16 => iprop(∃ f, pbPts (F := F) (peer c) k f)) ∗ (bigSep Finset.univ fun k : Fin 16 => iprop(∃ f, lbPts (F := F) c k.val fullShare f)))
      ⊢ blocks m c 0 0 := by
  unfold blocks
  rw [← bigSep_sep', ← bigSep_sep', ← bigSep_sep']
  refine bigSep_mono fun k _ => ?_
  have e : blk m c 0 0 k = iprop(sendable c k ∗ ∃ f, lbPts c k.val fullShare f) := by
    unfold blk unsent
    rw [if_neg (Nat.not_lt_zero _), if_neg (Nat.not_lt_zero _)]
  refine BIBase.Entails.trans ?_ (Entails.of_eq e.symm)
  unfold sendable
  show iprop(dutyTok ER (sendCell c k) 0 () ∗ dutyTok ER (recvCell (peer c) k) 0 () ∗ (∃ f, pbPts (peer c) k f) ∗ ∃ f, lbPts c k.val fullShare f)
    ⊢ iprop((dutyTok ER (sendCell c k) 0 () ∗ dutyTok ER (recvCell (peer c) k) 0 () ∗ ∃ f, pbPts (peer c) k f) ∗ ∃ f, lbPts c k.val fullShare f)
  iintro ⟨H1, H2, H3, H4⟩
  isplitr [H4]
  · isplitl [H1]; · iexact H1
    isplitl [H2] <;> iassumption
  iexact H4

/-- Every block sent: what the sends' completions are waited for with. -/
theorem blocks_settled :
    iprop(blocks m c 16 16 ∗ bigSep Finset.univ fun k : Fin 16 => atPos ER (sendCell c k) 0 ∅ 0) ⊢ bigSep Finset.univ (settled (F := F) c 0) := by
  unfold blocks
  rw [← bigSep_sep']
  refine bigSep_mono fun k _ => ?_
  have e : blk m c 16 16 k = iprop(cred (tallyAt (sendCell c k) () N) ∗ lbPts c k.val fullShare.right (lbA m c)) := by
    unfold blk sent
    rw [if_pos k.isLt]
  have e' : settled (F := F) c 0 k = iprop(cred (tallyAt (sendCell c k) () N) ∗ atPos ER (sendCell c k) 0 ∅ 0) := by
    unfold settled
    rw [if_neg (Nat.not_lt_zero _)]
  rw [e, e']
  show iprop((cred (tallyAt (sendCell c k) () N) ∗ lbPts c k.val fullShare.right (lbA m c)) ∗ atPos ER (sendCell c k) 0 ∅ 0)
    ⊢ iprop(cred (tallyAt (sendCell c k) () N) ∗ atPos ER (sendCell c k) 0 ∅ 0)
  iintro ⟨⟨H1, -⟩, H2⟩
  isplitl [H1] <;> iassumption
theorem settled_all : bigSep Finset.univ (settled (F := F) c 16) ⊢ bigSep Finset.univ fun k : Fin 16 => semVal (sendCell c k) 0 :=
  bigSep_mono fun k _ => by unfold settled; rw [if_pos k.isLt]; exact Entails.refl _
theorem awaited_none :
    iprop((bigSep Finset.univ fun k : Fin 16 => cred (tallyAt (recvCell c k) () N)) ∗ bigSep Finset.univ fun k : Fin 16 => atPos ER (recvCell c k) 0 ∅ 0)
      ⊢ bigSep Finset.univ (awaited (F := F) c 0) := by
  rw [← bigSep_sep']
  refine bigSep_mono fun k _ => ?_
  unfold awaited
  rw [if_neg (Nat.not_lt_zero _)]
  exact Entails.refl _
theorem awaited_all : bigSep Finset.univ (awaited (F := F) c 16) ⊢ bigSep Finset.univ fun k : Fin 16 => semVal (recvCell c k) 0 :=
  bigSep_mono fun k _ => by unfold awaited; rw [if_pos k.isLt]; exact Entails.refl _

/-- The result once every block is in place. -/
theorem outs_all {A : ℕ → Prop} (h : ∀ q, q < 32 → A q) : outs m c A ⊢ (c : Thread nD τ).loc main_v1_0 ↦{fullShare} outA m c := by
  unfold outs
  iintro ⟨%f, H, %hf⟩
  have e : f = outA m c := by
    funext i
    have hi : (i 1).val < 16384 := (i 1).isLt
    exact hf ((i 1).val / 512) (h _ (by omega)) i (mem_colSet.mpr rfl)
  subst e
  iexact H

set_option maxHeartbeats 2000000 in
/-- The body. -/
theorem whole : iprop(records m K ∗ levAts L lv ∗ wholePre m c) ⊢ Run c (cc0_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17) (fun _ => wholePost m c) := by
  have hc : c.val < 16 := c.isLt
  simp only [cc0_body_eq_skeleton]
  unfold cc0_body_skel wholePre wholePost toks creds locals scratch
  rw [cells_split, cells_split]
  iintro ⟨#Hrec, #Hlev, HO, ⟨Ht1, Ht2, Ht3, Ht4, Ht5⟩, ⟨Hc1, Hc2, Hc3⟩, ⟨Ha1, Ha2, Ha3, Ha4, Ha5⟩, ⟨Hx, Hw, Hout, Hlb, Hpb⟩,
    ⟨H0, H1, H2, H3, H4, H5, H6, H7, H8⟩, Hx0, Hx1, Hw0, Hw1, Hvl, Hvi, Hvo⟩
  iapply (andThen c)
  iapply (first m K c) $$ [HO Ht3 Hc1 Ha3 Hpb H8 Hx H0 H1 Hx0 Hx1]
  · isplitr; · iexact Hrec
    isplitr; · iexact Hlev
    unfold firstPre
    isplitl [HO]; · iexact HO
    isplitl [Ht3]; · iexact Ht3
    isplitl [Hc1]; · iexact Hc1
    isplitl [Ha3]; · iexact Ha3
    isplitl [Hpb]; · iexact Hpb
    isplitl [H8]; · unfold srPts; iexact H8
    isplitl [Hx]; · iexact Hx
    isplitl [H0]; · iexact H0
    isplitl [H1]; · iexact H1
    isplitl [Hx0] <;> iassumption
  iintro %v2 %v5 %v8 %v9 Hp
  unfold firstPost barPay
  icases Hp with ⟨HO, Hvb, ⟨Hpb, Hsr⟩, Hx, H0, H1, Hx0, Hx1⟩
  dsimp only
  iapply (andThen c)
  iapply (mid m K c v5 v8 v9) $$ [HO Hw H2 Hw0 Hw1 H0 H3 H4 Hvl Ht1 Ht2 Hpb Hlb H7 Hsr Ht4 Ht5 Hc3 Ha5]
  · isplitr; · iexact Hrec
    isplitr; · iexact Hlev
    unfold midPre
    isplitl [HO]; · iexact HO
    isplitl [Hw]; · iexact Hw
    isplitl [H2]; · iexact H2
    isplitl [Hw0]; · iexact Hw0
    isplitl [Hw1]; · iexact Hw1
    isplitl [H0]; · iexact H0
    isplitl [H3]; · iexact H3
    isplitl [H4]; · iexact H4
    isplitl [Hvl]; · iexact Hvl
    isplitl [Ht1 Ht2 Hpb Hlb]
    · iapply (blocks_start m c)
      isplitl [Ht1]; · iexact Ht1
      isplitl [Ht2]; · iexact Ht2
      isplitl [Hpb]; · iexact Hpb
      iapply (lbCut c) $$ Hlb
    isplitl [H7]; · unfold ssPts; iexact H7
    isplitl [Hsr]; · iexact Hsr
    isplitl [Ht4]; · iexact Ht4
    isplitl [Ht5]; · iexact Ht5
    isplitl [Hc3]; · iexact Hc3
    iexact Ha5
  iintro Hp
  unfold midPost
  icases Hp with ⟨HO, Hw, H2, Hw0, Hw1, H0, H3, H4, Hvl, Hbl, H8, Hvsr, Hcs⟩
  dsimp only
  simp only [Prog.lift, Prog.bind_op, Prog.bind_ret, Prog.pure_eq_ret]
  unfold srPts
  iapply (load c srM (laneRect 0 inb_S2x2048x128_S1x2048x1_0_0_0) (Finset.subset_univ _) rfl) $$ H8
  iintro H8
  iapply (load c srM (laneRect 1 inb_S2x2048x128_S1x2048x1_1_0_0) (Finset.subset_univ _) rfl) $$ H8
  iintro H8
  rw [max_read, sum_read]
  iapply (loop c 16 trips4_eq (ownInv m c) (ownTrip m c)) $$ [Hbl H5 H6 Hvi Hvo HO Hout]
  · unfold ownInv stage outs
    isplitl [Hbl]; · iexact Hbl
    isplitr [Hout]
    · isplitl [H5]; · iexact H5
      isplitl [H6]; · iexact H6
      isplitl [Hvi]; · iexact Hvi
      isplitl [Hvo]; · iexact Hvo
      isplitl [HO]; · iexact HO
      iexact Hlev
    icases Hout with ⟨%f, Hout⟩
    iexists f
    isplitl [Hout]; · iexact Hout
    ipureintro
    exact fun q hq => absurd hq.2 (Nat.not_lt_zero _)
  iintro %_a4 Hinv
  unfold ownInv
  icases Hinv with ⟨Hbl, Hst, Hout⟩
  iapply (loop c 16 trips5_eq (peerInv m K c) (peerTrip m K c)) $$ [Hc2 Ha2 Hst Hout]
  · unfold peerInv
    isplitr; · iexact Hrec
    isplitl [Hc2 Ha2]
    · iapply (awaited_none c)
      isplitl [Hc2]; · iexact Hc2
      iexact Ha2
    isplitl [Hst]; · iexact Hst
    iapply (outs_mono m c fun q hq => ?_) $$ Hout
    exact ⟨hq.2.resolve_right (Nat.not_lt_zero _), Nat.mod_lt _ (by decide)⟩
  iintro %_a5 Hinv
  unfold peerInv
  icases Hinv with ⟨-, Haw, Hst, Hout⟩
  ihave Haw := (awaited_all c) $$ Haw
  ihave Hout := (outs_all m c fun q hq => ⟨hq, .inr (Nat.mod_lt _ (by decide))⟩) $$ Hout
  unfold stage
  icases Hst with ⟨H5, H6, Hvi, Hvo, HO, -⟩
  iapply (loop c 16 trips6_eq (sendInv m K c) (sendTrip m K c)) $$ [Hbl Ha1 HO]
  · unfold sendInv
    isplitr; · iexact Hrec
    isplitl [Hbl Ha1]
    · iapply (blocks_settled m c)
      isplitl [Hbl]; · iexact Hbl
      iexact Ha1
    iexact HO
  iintro %_a6 Hinv
  unfold sendInv
  icases Hinv with ⟨-, Hse, HO⟩
  ihave Hse := (settled_all c) $$ Hse
  iapply (collect m K c (.inr (.inr 1)) ssSem rfl rfl (κ := .tc) (b := cc0_scratch7) (s := S2x2048x128) (e := .f32) Ns rfl rfl) $$ [Hcs HO Ha4]
  · isplitr; · iexact Hrec
    isplitl [Hcs]; · iexact Hcs
    isplitl [HO]; · iexact HO
    iexact Ha4
  rw [pay_ss]
  unfold ssPts
  iintro ⟨H7, Hvss, HO⟩
  iapply (done c)
  isplitl [HO]; · iexact HO
  isplitl [Hx Hw Hout]
  · isplitl [Hx]; · iexact Hx
    isplitl [Hw]; · iexact Hw
    iexact Hout
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  isplitl [Hse Haw Hvb Hvss Hvsr]
  · isplitl [Hse]; · iexact Hse
    isplitl [Haw]; · iexact Haw
    isplitl [Hvb]; · iexact Hvb
    isplitl [Hvss]; · iexact Hvss
    iexact Hvsr
  isplitl [Hx0]; · iexact Hx0
  isplitl [Hx1]; · iexact Hx1
  isplitl [Hw0]; · iexact Hw0
  isplitl [Hw1]; · iexact Hw1
  isplitl [Hvl]; · iexact Hvl
  isplitl [Hvi] <;> iassumption

end Cert.Fused

end
-- ==== Proof.Launch.lean ====
/-
# The run of the machine

Every device's run put together: the cells and duties made at launch, dealt to the devices that hold
them, and what a final state holds read off.
-/
module

public import proofs.«01_k».proof.Proof.Whole
public import proofs.«01_k».proof.Proof.Gen.KernelIdeal.Launch
public import proofs.«01_k».proof.Proof.Gen.KernelIdeal.Frame
public import Idealize.ShloMosaic.Lib.Pipeline.CollectiveSegs

@[expose] public section

noncomputable section

namespace Cert.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ) (c : Dev nD)

/-! ## The cells -/

theorem csem_injective : Function.Injective csem := by
  have h : ∀ i j : CI, csem i = csem j → i = j := by decide +kernel
  exact fun i j => h i j
theorem kcell_injective : Function.Injective (kcell : Dev nD × CI → GSem nD τ sig) := by
  rintro ⟨a, i⟩ ⟨b, j⟩ h
  have h₁ : a = b := congrArg (fun g : GSem nD τ sig => g.1.1) h
  exact Prod.ext h₁ (csem_injective (congrArg Prod.snd h))

/-- The exchange's cells, -/
def allCells : Finset (GSem nD τ sig) := Finset.univ.map ⟨kcell, kcell_injective⟩
/-- the one duty of each, -/
abbrev dutyOf (ck : Dev nD × CI) : GSem nD τ sig × ℕ × Unit := (kcell ck, 0, ())
theorem dutyOf_injective : Function.Injective dutyOf := fun _ _ h => kcell_injective (congrArg Prod.fst h)
/-- and all of them. -/
def allDuties : Finset (GSem nD τ sig × ℕ × Unit) := Finset.univ.map ⟨dutyOf, dutyOf_injective⟩

/-- The ghost state made at launch. -/
def u₀ : UU := (initOf (Pipeline.cells cfgs cellOf_inj) (Pipeline.launchToks cfgs cellOf_inj), (initOf allCells allDuties, 1))

/-- The kernel's own semaphores: the sends', the landings', and nine more. -/
abbrev SI9 : Type := Fin 16 ⊕ (Fin 16 ⊕ Fin 9)
abbrev osem : SI9 → SemLoc sig
  | .inl k => .dma (sendSem k)
  | .inr (.inl k) => .dma (recvSem k)
  | .inr (.inr j) => .dma (dsem (32 + j.val) (by have := j.isLt; omega))
set_option maxRecDepth 100000 in
theorem ownSemFacts : Pipeline.OwnSemFacts cfg0.spec osem := by decide +kernel

theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- They are the exchange's and the local ones, -/
theorem ownSems_eq : (Pipeline.ownSems0 (Ix := Unit) (Name := ℕ) (U := UU) (Lvl := ℕ) (Val := Elt F) (τ := τ) osem c : sProp 𝕄)
    = iprop((bigSep Finset.univ fun k : Fin 16 => semVal (sendCell c k) 0) ∗ (bigSep Finset.univ fun k : Fin 16 => semVal (recvCell c k) 0)
      ∗ semVal (ssCell c) 0 ∗ semVal (srCell c) 0 ∗ locals c) := by
  unfold Pipeline.ownSems0
  rw [bigSep_univ_sum, bigSep_univ_sum, nine]
  rfl
/-- and the runtime's is the barrier. -/
theorem barSem_eq : (unscopedSems0 c : sProp 𝕄) = semVal (barCell c) 0 := by
  unfold unscopedSems0
  rw [bigSep_eq_bigSepL_of_eq [SemLoc.reg barS] (by decide) (by decide)]
  rfl

theorem sems_split : iprop(Pipeline.ownSems0 (Ix := Unit) (Name := ℕ) (U := UU) (Lvl := ℕ) (Val := Elt F) (τ := τ) osem c ∗ unscopedSems0 c)
    ⊢ iprop((bigSep Finset.univ fun i : CI => semVal (kcell (c, i)) 0) ∗ locals c : sProp 𝕄) := by
  rw [ownSems_eq, barSem_eq, cells_split]
  iintro ⟨⟨H1, H2, H3, H4, H5⟩, H6⟩
  isplitr [H5]
  · isplitl [H1]; · iexact H1
    isplitl [H2]; · iexact H2
    isplitl [H6]; · iexact H6
    isplitl [H3]; · iexact H3
    iexact H4
  iexact H5
theorem sems_join : iprop((bigSep Finset.univ fun i : CI => semVal (kcell (c, i)) 0) ∗ locals c : sProp 𝕄)
    ⊢ iprop(Pipeline.ownSems0 (Ix := Unit) (Name := ℕ) (U := UU) (Lvl := ℕ) (Val := Elt F) (τ := τ) osem c ∗ unscopedSems0 c) := by
  rw [ownSems_eq, barSem_eq, cells_split]
  iintro ⟨⟨H1, H2, H6, H3, H4⟩, H5⟩
  isplitr [H6]
  · isplitl [H1]; · iexact H1
    isplitl [H2]; · iexact H2
    isplitl [H3]; · iexact H3
    isplitl [H4]; · iexact H4
    iexact H5
  iexact H6

/-! ## Dealing -/

/-- The positions of a device at its own cells. -/
def spots : sProp 𝕄 := bigSep Finset.univ fun i : CI => atPos ER (kcell (c, i)) 0 ∅ 0
/-- What the launch makes for device `c`, -/
def made : sProp 𝕄 := iprop((bigSep Finset.univ fun i : CI => roundState ER (sched m) (kcell (c, i)) 0)
  ∗ spots c ∗ (bigSep Finset.univ fun i : CI => reached ER (kcell (c, i)) 0) ∗ bigSep Finset.univ fun i : CI => dutyTok ER (kcell (c, i)) 0 ())
/-- and what the devices hold once the cells are set up. -/
def dealt : sProp 𝕄 := iprop(∃ K, records m K ∗ spots c ∗ toks c ∗ locals c)

theorem make : BI.own (ER (initOf allCells allDuties)) ⊢ (|==> bigSep Finset.univ (made m) : sProp 𝕄) := by
  have hC (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hD : bigSep allDuties (fun x => (dutyTok ER x.1 x.2.1 x.2.2 : sProp 𝕄))
      = bigSep Finset.univ fun c : Dev nD => bigSep Finset.univ fun i : CI => dutyTok ER (kcell (c, i)) 0 () := by
    unfold allDuties; rw [bigSep_map, bigSep_univ_prod]; rfl
  have hG : (bigSep Finset.univ (made m) : sProp 𝕄) = iprop((bigSep Finset.univ fun c : Dev nD => bigSep Finset.univ fun i : CI => roundState ER (sched m) (kcell (c, i)) 0)
      ∗ (bigSep Finset.univ fun c : Dev nD => spots c) ∗ (bigSep Finset.univ fun c : Dev nD => bigSep Finset.univ fun i : CI => reached ER (kcell (c, i)) 0)
      ∗ bigSep Finset.univ fun c : Dev nD => bigSep Finset.univ fun i : CI => dutyTok ER (kcell (c, i)) 0 ()) := by
    unfold made; rw [bigSep_sep', bigSep_sep', bigSep_sep']
  rw [hG]
  iintro H
  imod (Rounds.fund ER (sched m) allCells allDuties) $$ H with ⟨H1, H2, H3, H4⟩
  imodintro
  ihave H1 := (Entails.of_eq (hC fun g => roundState ER (sched m) g 0)) $$ H1
  ihave H3 := (Entails.of_eq (hC fun g => atPos ER g 0 ∅ 0)) $$ H3
  ihave H2 := (Entails.of_eq (hC fun g => reached ER g 0)) $$ H2
  ihave H4 := (Entails.of_eq hD) $$ H4
  isplitl [H1]; · iexact H1
  isplitl [H3]; · unfold spots; iexact H3
  isplitl [H2] <;> iassumption

/-- A device's cells set up. -/
theorem setUp : iprop(Pipeline.ownSems0 (Ix := Unit) (Name := ℕ) (U := UU) (Lvl := ℕ) (Val := Elt F) (τ := τ) osem c ∗ unscopedSems0 c ∗ made m c)
    ⊢ |={Set.univ}=> iprop((bigSep Finset.univ fun i : CI => iprop((∃ κ : ℕ, cellInv ER (sched m) κ (kcell (c, i))) ∗ reached ER (kcell (c, i)) 0))
      ∗ spots c ∗ (bigSep Finset.univ fun i : CI => dutyTok ER (kcell (c, i)) 0 ()) ∗ locals c : sProp 𝕄) := by
  have alloc : iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) := by
    rw [← bigSep_sep']
    exact (bigSep_mono fun i _ => (Rounds.body_intro ER (sched m) (kcell (c, i))).trans inv_alloc).trans (bigSep_fupd _ _)
  have e : (bigSep Finset.univ fun i : CI => iprop((∃ κ : ℕ, cellInv ER (sched m) κ (kcell (c, i))) ∗ reached ER (kcell (c, i)) 0) : sProp 𝕄)
      = iprop((bigSep Finset.univ fun i : CI => iprop(∃ κ : ℕ, cellInv ER (sched m) κ (kcell (c, i)))) ∗ bigSep Finset.univ fun i : CI => reached ER (kcell (c, i)) 0) :=
    bigSep_sep' _ _ _
  rw [e]
  unfold made
  iintro ⟨H1, H2, H3, H4, H5, H6⟩
  ihave H := (sems_split (F := F) c) $$ [H1 H2]
  · isplitl [H1] <;> iassumption
  icases H with ⟨H, Hl⟩
  imod alloc $$ [H H3] with Hi
  · isplitl [H] <;> iassumption
  imodintro
  isplitl [Hi H5]
  · isplitl [Hi] <;> iassumption
  isplitl [H4]; · iexact H4
  isplitl [H6] <;> iassumption

/-- The duties go to the devices that pay them: those of the landings and of the barrier to the peer. -/
theorem duties_dealt : (bigSep Finset.univ fun c : Dev nD => bigSep Finset.univ fun i : CI => dutyTok ER (kcell (c, i)) 0 () : sProp 𝕄)
    ⊢ bigSep Finset.univ fun c : Dev nD => toks c := by
  rw [bigSep_congr (s := Finset.univ) fun (c : Dev nD) _ => cells_split fun i => (dutyTok ER (kcell (c, i)) 0 () : sProp 𝕄)]
  unfold toks
  rw [bigSep_sep', bigSep_sep', bigSep_sep', bigSep_sep', bigSep_sep', bigSep_sep', bigSep_sep', bigSep_sep',
    bigSep_univ_equiv swap (fun c : Dev nD => (bigSep Finset.univ fun k : Fin 16 => dutyTok ER (kcell (c, .inr (.inl k))) 0 () : sProp 𝕄)),
    bigSep_univ_equiv swap (fun c : Dev nD => (dutyTok ER (kcell (c, .inr (.inr 0))) 0 () : sProp 𝕄)),
    bigSep_univ_equiv swap (fun c : Dev nD => (dutyTok ER (kcell (c, .inr (.inr 2))) 0 () : sProp 𝕄))]
  exact Entails.refl _

/-- What is persistent goes to each. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h' := bigSep_mono h
  rw [bigSep_sep'] at h'
  exact (sep_mono_left (BI.bigSep_of_persistent S R)).trans h'

/-- The cells set up on every device, each device holds its share. -/
theorem deal : (bigSep Finset.univ fun c : Dev nD => iprop((bigSep Finset.univ fun i : CI => iprop((∃ κ : ℕ, cellInv ER (sched m) κ (kcell (c, i))) ∗ reached ER (kcell (c, i)) 0))
      ∗ spots c ∗ (bigSep Finset.univ fun i : CI => dutyTok ER (kcell (c, i)) 0 ()) ∗ locals c) : sProp 𝕄)
    ⊢ bigSep Finset.univ (dealt m) := by
  have e : (bigSep Finset.univ fun c : Dev nD => bigSep Finset.univ fun i : CI => iprop((∃ κ : ℕ, cellInv ER (sched m) κ (kcell (c, i))) ∗ reached ER (kcell (c, i)) 0) : sProp 𝕄)
      = iprop((bigSep Finset.univ fun ck : Dev nD × CI => iprop(∃ κ : ℕ, cellInv ER (sched m) κ (kcell ck))) ∗ bigSep Finset.univ fun ck : Dev nD × CI => reached ER (kcell ck) 0) :=
    (bigSep_univ_prod fun ck : Dev nD × CI => iprop((∃ κ : ℕ, cellInv ER (sched m) κ (kcell ck)) ∗ reached ER (kcell ck) 0)).symm.trans (bigSep_sep' _ _ _)
  have e' : ∀ K : Dev nD × CI → ℕ, (records m K : sProp 𝕄)
      = iprop((bigSep Finset.univ fun ck : Dev nD × CI => cellInv ER (sched m) (K ck) (kcell ck)) ∗ bigSep Finset.univ fun ck : Dev nD × CI => reached ER (kcell ck) 0) :=
    fun K => bigSep_sep' _ _ _
  rw [bigSep_sep', bigSep_sep', bigSep_sep', e]
  iintro ⟨⟨HI, HR⟩, Hs, Ht, Hl⟩
  ihave HI := (BI.bigSep_exists_pi Finset.univ (fun (ck : Dev nD × CI) (κ : ℕ) => (cellInv ER (sched m) κ (kcell ck) : sProp 𝕄))) $$ HI
  icases HI with ⟨%K, HI⟩
  ihave Hrec := (Entails.of_eq (e' K).symm) $$ [HI HR]
  · isplitl [HI] <;> iassumption
  ihave Ht := (duties_dealt (F := F)) $$ Ht
  iapply (share_out (R := records m K) (Φ := fun c => iprop(spots c ∗ toks c ∗ locals c)) fun c _ => show iprop(records m K ∗ spots c ∗ toks c ∗ locals c) ⊢ dealt m c from by
    unfold dealt
    iintro H
    iexists K
    iexact H)
  isplitl [Hrec]; · iexact Hrec
  rw [bigSep_sep', bigSep_sep']
  isplitl [Hs]; · iexact Hs
  isplitl [Ht] <;> iassumption

theorem everywhere : (bigSep Finset.univ fun c => iprop(Pipeline.ownSems0 (Ix := Unit) (Name := ℕ) (U := UU) (Lvl := ℕ) (Val := Elt F) (τ := τ) osem c ∗ unscopedSems0 c ∗ made m c) : sProp 𝕄)
    ⊢ |={Set.univ}=> bigSep Finset.univ (dealt m) :=
  ((bigSep_mono fun c _ => setUp m c).trans (bigSep_fupd _ _)).trans (BI.fupd_mono (deal m))

/-! ## What is owed at launch -/

theorem tally_at (ck ck' : Dev nD × CI) (n : ℕ) :
    (tallyAt (kcell ck') () n : CellTallies nD τ sig Unit) (kcell ck) () = if ck = ck' then n else 0 := by
  rw [tallyAt_apply]
  simp only [kcell_injective.eq_iff, and_true]

/-- What a device owes each cell of the exchange. -/
theorem owed (d : Dev nD) (ck : Dev nD × CI) :
    O₀ d (kcell ck) () = (∑ k : Fin 16, if ck = (peer d, .inr (.inl k)) then N else 0)
      + (if ck = (peer d, .inr (.inr 2)) then Ns else 0) + (if ck = (peer d, .inr (.inr 0)) then 1 else 0) := by
  have e : Orem d 0 = ∑ k : Fin 16, tallyAt (kcell (peer d, .inr (.inl k))) () N := by
    unfold Orem
    exact Finset.sum_congr (Finset.filter_true_of_mem fun k _ => Nat.zero_le _) fun k _ => rfl
  have eR : Orem d 0 (kcell ck) () = ∑ k : Fin 16, if ck = (peer d, .inr (.inl k)) then N else 0 := by
    rw [e, Finset.sum_apply, Finsupp.finset_sum_apply]
    exact Finset.sum_congr rfl fun k _ => tally_at _ _ _
  have eS : Ost d (kcell ck) () = if ck = (peer d, .inr (.inr 2)) then Ns else 0 :=
    tally_at ck (peer d, .inr (.inr 2)) Ns
  have eB : (tallyAt (barCell (peer d)) () 1 : CellTallies nD τ sig Unit) (kcell ck) () = if ck = (peer d, .inr (.inr 0)) then 1 else 0 :=
    tally_at ck (peer d, .inr (.inr 0)) 1
  unfold O₀ O₁
  rw [Pi.add_apply, Finsupp.add_apply, Pi.add_apply, Finsupp.add_apply, eR, eS, eB]

/-- Device `c`'s landings, statistics and barrier are owed by its peer alone. -/
theorem owed_total (i : CI) (n : ℕ) (h : ∀ d, O₀ d (kcell (c, i)) () = if d = peer c then n else 0) :
    tallyOn (kcell (c, i)) (launchCredit (Pipeline.owing O₀) 0 (kcell (c, i))) = (tallyAt (kcell (c, i)) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

theorem peer_iff (d : Dev nD) : c = peer d ↔ d = peer c := ⟨fun h => by rw [h, peer_peer], fun h => by rw [h, peer_peer]⟩

theorem owed_recv (k : Fin 16) (d : Dev nD) : O₀ d (kcell (c, .inr (.inl k))) () = if d = peer c then N else 0 := by
  rw [owed]
  by_cases h : d = peer c
  · subst h
    simp [peer_peer]
  · have h' : c ≠ peer d := fun e => h ((peer_iff c d).mp e)
    simp [h, h']
theorem owed_sr (d : Dev nD) : O₀ d (kcell (c, .inr (.inr 2))) () = if d = peer c then Ns else 0 := by
  rw [owed]
  by_cases h : d = peer c
  · subst h
    simp [peer_peer]
  · have h' : c ≠ peer d := fun e => h ((peer_iff c d).mp e)
    simp [h, h']
theorem owed_bar (d : Dev nD) : O₀ d (kcell (c, .inr (.inr 0))) () = if d = peer c then 1 else 0 := by
  rw [owed]
  by_cases h : d = peer c
  · subst h
    simp [peer_peer]
  · have h' : c ≠ peer d := fun e => h ((peer_iff c d).mp e)
    simp [h, h']

theorem creds_intro : (Pipeline.launchCred O₀ c : sProp 𝕄) ⊢ creds c := by
  unfold Pipeline.launchCred
  refine (bigSep_subset (Finset.subset_univ (Finset.univ.map ⟨csem, csem_injective⟩))).trans ?_
  rw [bigSep_map]
  refine (Entails.of_eq (cells_split _)).trans ?_
  have e₁ := bigSep_congr (s := Finset.univ) fun (k : Fin 16) _ => congrArg (cred : _ → sProp 𝕄) (owed_total c (.inr (.inl k)) N (owed_recv c k))
  have e₂ := congrArg (cred : _ → sProp 𝕄) (owed_total c (.inr (.inr 0)) 1 (owed_bar c))
  have e₃ := congrArg (cred : _ → sProp 𝕄) (owed_total c (.inr (.inr 2)) Ns (owed_sr c))
  unfold creds
  iintro ⟨-, H1, H2, -, H3⟩
  isplitl [H2]; · iapply (Entails.of_eq e₂); iexact H2
  isplitl [H1]; · iapply (Entails.of_eq e₁); iexact H1
  iapply (Entails.of_eq e₃); iexact H3

/-! ## The region's proof data -/

/-- A device's arrays at launch, -/
def arrays : sProp 𝕄 := iprop(xAll m c ∗ wAll m c ∗ (∃ f, (c : Thread nD τ).loc main_v1_0 ↦{fullShare} f) ∗ (∃ f, (c : Thread nD τ).loc main_v1_1 ↦{fullShare} f)
    ∗ (∃ f, (c : Thread nD τ).loc main_v1_2 ↦{fullShare} f))
/-- and after. -/
def results : sProp 𝕄 := iprop(xAll m c ∗ wAll m c ∗ ((c : Thread nD τ).loc main_v1_0 ↦{fullShare} outA m c))
/-- What a device starts with. -/
def start : sProp 𝕄 := iprop(dealt m c ∗ levAts L lv ∗ creds c ∗ arrays m c)

/-- What holds before the kernel and after it. -/
def atPoint (t : ℕ) : sProp 𝕄 := if t = 0 then iprop(start m c ∗ scratch c)
  else iprop(results m c ∗ scratch c ∗ (bigSep Finset.univ fun i : CI => semVal (kcell (c, i)) 0) ∗ locals c)
/-- What is owed before it and after it. -/
def owedAt (t : ℕ) : CellTallies nD τ sig Unit := if t = 0 then O₀ c else 0

theorem atPoint_zero : atPoint m c 0 = iprop(start m c ∗ scratch c) := by unfold atPoint; rw [if_pos rfl]
theorem atPoint_one : atPoint m c 1 = iprop(results m c ∗ scratch c ∗ (bigSep Finset.univ fun i : CI => semVal (kcell (c, i)) 0) ∗ locals c) := by
  unfold atPoint; rw [if_neg Nat.one_ne_zero]
theorem owedAt_zero : owedAt c 0 = O₀ c := by unfold owedAt; rw [if_pos rfl]
theorem owedAt_one : owedAt c 1 = 0 := by unfold owedAt; rw [if_neg Nat.one_ne_zero]

def dats (_ : Fin 1) (c : Dev nD) : Pipeline.Dat τ (Elt F) Unit ℕ UU ℕ cfg0 c where
  A w := w.elim0
  after w := w.elim0
  Φ t := atPoint m c t.val
  q w := w.elim0
  owed t := owedAt c t.val

theorem noWindow (Φ : Fin 0 → sProp 𝕄) : bigSep Finset.univ Φ = (BI.emp : sProp 𝕄) := bigSep_univ_eq_bigSepL [] (by decide) (by decide) Φ

set_option maxHeartbeats 1000000 in
theorem body_obligation : Pipeline.BodyObligation (dats (F := F) m 0 c) (defs₀ (F := F)) 𝒱₀ () Set.univ := fun t => by
  obtain rfl := fin_N0 t
  rw [noWindow, noWindow]
  rw [show (dats m 0 c).Φ t0_0.castSucc = iprop(start m c ∗ scratch c) from atPoint_zero m c,
    show (dats m 0 c).Φ t0_0.succ = iprop(results m c ∗ scratch c ∗ (bigSep Finset.univ fun i : CI => semVal (kcell (c, i)) 0) ∗ locals c) from atPoint_one m c]
  unfold Pipeline.Dat.owesAt Pipeline.owesWithin
  rw [show (dats m 0 c).owed t0_0.castSucc = O₀ c from owedAt_zero c, show (dats m 0 c).owed t0_0.succ = 0 from owedAt_one c]
  show _ ⊢ Run c (cc0_body (F := F) (Memref.whole main_arg0) (Memref.isWhole_whole _) (Memref.whole main_arg1) (Memref.isWhole_whole _) (Memref.whole main_v1_0) (Memref.isWhole_whole _) (Memref.whole main_v1_1) (Memref.isWhole_whole _) (Memref.whole main_v1_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17) _
  unfold start dealt spots arrays
  iintro ⟨⟨⟨⟨%K, Hrec, Hs, Ht, Hl⟩, Hlev, Hc, Ha⟩, Hscr⟩, ⟨%W, -, HO⟩, -⟩
  iapply (wp_wand_r Idealize.ShloMosaic.frame (wpE (defs₀ (F := F)) 𝒱₀ (c : Thread nD τ) none) Set.univ)
  isplitl [Hrec Hs Ht Hl Hlev Hc Ha Hscr HO]
  · iapply (whole m K c)
    isplitl [Hrec]; · iexact Hrec
    isplitl [Hlev]; · iexact Hlev
    unfold wholePre
    isplitl [HO]; · unfold Owes; iexists W; iexact HO
    isplitl [Ht]; · iexact Ht
    isplitl [Hc]; · iexact Hc
    isplitl [Hs]; · iexact Hs
    isplitl [Ha]; · iexact Ha
    isplitl [Hscr] <;> iassumption
  iintro %_u H
  unfold wholePost Owes results
  icases H with ⟨⟨%W', HO⟩, Hr, Hs, Hv, Hl⟩
  isplitl [Hr Hs Hv Hl]
  · isplitl [Hr]; · iexact Hr
    isplitl [Hs]; · iexact Hs
    isplitl [Hv] <;> iassumption
  isplitl [HO]
  · iexists W'
    isplitr; · ipureintro; exact fun _ _ => Or.inl trivial
    iexact HO
  iempintro

/-! ## The conditions of the launch -/

theorem start_intro :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  iintro ⟨⟨H1, H2, H3, H4, H5⟩, Hlev, Hcr, -, HG⟩
  ihave Hc := (creds_intro (F := F) c) $$ Hcr
  imodintro
  unfold start arrays
  isplitl
  · isplitl [HG]; · iexact HG
    isplitl [Hlev]; · iexact Hlev
    isplitl [Hc]; · iexact Hc
    isplitl [H1]; · unfold xAll xA; iexact H1
    isplitl [H2]; · unfold wAll wA; iexact H2
    isplitl [H3]; · iexists _; iexact H3
    isplitl [H4]; · iexists _; iexact H4
    iexists _; iexact H5
  iempintro

theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from atPoint_zero m c, scopedRest0_eq]
  iintro ⟨Hs, -, Hr⟩
  isplitl [Hs]; · iexact Hs
  unfold scratch
  iexact Hr

/-- What is left to read a final state by. -/
def left : sProp 𝕄 := iprop(unscopedSems0 c ∗ results m c)

theorem leave :
    (dats m 0 c).Φ (Fin.last cfg0.N) ⊢ iprop(left m c ∗ Pipeline.ownSems0 osem c ∗ Pipeline.scopedRest cfg0.spec c) := by
  rw [show (dats m 0 c).Φ (Fin.last cfg0.N) = iprop(results m c ∗ scratch c ∗ (bigSep Finset.univ fun i : CI => semVal (kcell (c, i)) 0) ∗ locals c) from
      (congrArg (atPoint m c) N_0).trans (atPoint_one m c),
    scopedRest0_eq]
  unfold left
  iintro ⟨Hr, Hs, Hv⟩
  ihave Hv := (sems_join (F := F) c) $$ Hv
  icases Hv with ⟨Ho, Hu⟩
  isplitl [Hu Hr]
  · isplitl [Hu] <;> iassumption
  isplitl [Ho]; · iexact Ho
  unfold scratch
  iexact Hs

/-- What a final state is known to hold on device `c`. -/
def Final (s : MemSt nD τ sig (Elt F)) : Prop :=
  (∀ sm : SemLoc sig, sm.isScoped .tc = false → s.sem ((c.tc : Thread nD τ), sm) = 0)
    ∧ s.mem ((c.tc : Thread nD τ).loc main_arg0) = xA m c ∧ s.mem ((c.tc : Thread nD τ).loc main_arg1) = wA m c
    ∧ s.mem ((c.tc : Thread nD τ).loc main_v1_0) = outA m c

theorem readOff (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  iintro ⟨H, HSI⟩
  ihave H := (persistent_entails_right (SI_pointsTo_agree (st := s') (ℓ := (c : Thread nD τ).loc b) (I := Finset.univ) (q := fullShare) (f := f))) $$ [HSI H]
  · isplitl [HSI] <;> iassumption
  icases H with ⟨%h, HSI, -⟩
  isplitr
  · ipureintro
    exact funext fun i => h i (Finset.mem_univ i)
  iexact HSI

theorem final_read (s' : Phys nD τ sig (Elt F)) :
    iprop(left m c ∗ iprop(emp) ∗ SI s') ⊢ |={Set.univ}=> iprop(⌜Final m c s'.mem⌝ ∗ SI s' : sProp 𝕄) := by
  unfold left results xAll wAll
  iintro ⟨⟨Hu, Hx, Hw, Ho⟩, -, HSI⟩
  ihave H := (readOff c main_arg0 (xA m c) s') $$ [Hx HSI]
  · isplitl [Hx] <;> iassumption
  icases H with ⟨%h1, HSI⟩
  ihave H := (readOff c main_arg1 (wA m c) s') $$ [Hw HSI]
  · isplitl [Hw] <;> iassumption
  icases H with ⟨%h2, HSI⟩
  ihave H := (readOff c main_v1_0 (outA m c) s') $$ [Ho HSI]
  · isplitl [Ho] <;> iassumption
  icases H with ⟨%h3, HSI⟩
  imod (Pipeline.unscopedSems0_read (X := unscopedSems0 c) (c := c) fupd_intro s') $$ [Hu HSI] with H
  · isplitl [Hu] <;> iassumption
  icases H with ⟨%h0, HSI⟩
  imodintro
  isplitr
  · ipureintro
    exact ⟨h0, h1, h2, h3⟩
  iexact HSI

theorem waits : (levAts L lv : sProp 𝕄) ⊢ Pipeline.cellsWaits cfgs (dats m) () 0 c :=
  Pipeline.cellsWaits_intro cfgs (dats m) () 0 c fun w => w.elim0

/-! ## The run -/

theorem ghost_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

set_option maxRecDepth 8000 in
set_option maxHeartbeats 1000000 in
/-- From any memory with every semaphore at zero, every fair execution of the machine terminates with each device's
    arguments as they were, its result in place and every semaphore at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := owedAt_zero) (howedN := fun c => (congrArg (owedAt c) N_0).trans (owedAt_one c))
    (L := L) (lv := lv) (hL := L_of_ne) (hwaits := waits m)
    (G := made m) (G' := dealt m) (u₀ := u₀)
    (hu₀ := by
      unfold u₀
      iintro Hu
      ihave H := (ghost_split _ _) $$ Hu
      icases H with ⟨HP, HX⟩
      imod (make m) $$ HX with HG
      imodintro
      isplitl [HP] <;> iassumption)
    (hglob := everywhere m)
    (hA := fun _ w => w.elim0) (hpf := fun _ k => k.elim0)
    (X := start m) (Y := left m) (Z := fun _ => iprop(emp))
    (hX := start_intro m ρ) (hin := enter m) (hout := leave m)
    (QY := Final m) (hY := final_read m)
    (hQ := fun _ h hs => ⟨fun c => (h c).2.2, sem_eq_zero hs fun c => (h c).2.2.1⟩)

end Cert.Fused

end
-- ==== Proof.Frames.lean ====
/-
# The frames

Both printings of the kernel have one text, so the one run gives the frame of each. The reference is
host operations alone and has no semaphore.
-/
module

public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent
public import proofs.«01_k».proof.Proof.Launch

@[expose] public section

noncomputable section

namespace Cert.Fused

open Idealize.ShloMosaic Idealize.ShloMosaic.TcCoe Idealize.SL.Sem

/-- The kernel at the machine's floats leaves its arguments and its semaphores as they were. -/
theorem frame_kernel : Cert.quiescent_Kernel := fun m ρ _ =>
  (θ_run Cert.KernelIdeal.defs _ _).mono (fun _ h => ⟨fun c => ⟨(h.1 c).2.1, (h.1 c).2.2.1⟩, h.2⟩) (run_main (F := Bits) m ρ)

/-- So it does over the reals. -/
theorem frame_ideal : Cert.quiescent_KernelIdeal := fun m ρ _ =>
  (θ_run Cert.KernelIdeal.defs _ _).mono (fun _ h => ⟨fun c => ⟨(h.1 c).2.1, (h.1 c).2.2.1⟩, h.2⟩) (run_main (F := Ideal) m ρ)

/-- The reference leaves its arguments as they were. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Fused

end
-- ==== Proof.Reading.lean ====
/-
# The device's contents, read at an index over the reals

Over the reals a cast between floats is the identity. So the narrowed operands are the operands, a block of logits is that
block of the product, and each value the kernel computes from them is, at an index, an expression in the logits of its row.
-/
module

public import proofs.«01_k».proof.Proof.Contents
public import Idealize.ShloMosaic.PureOps.Ideal.Laws
public import Idealize.ShloMosaic.Lib.IdealHost
public import Idealize.ShloMosaic.Lib.Pointwise
public import Idealize.ShloMosaic.Lib.ValueLayout

@[expose] public section

noncomputable section

namespace Cert.Fused

open Idealize.ShloMosaic Cert.KernelIdeal Cert.KernelIdeal.Gen

/-- The greatest of no numbers is `⊥`: where a maximum starts. -/
theorem ofBits_bot : Ideal.ofBits .f32 0xFF800000#32 = ⊥ := by simp [Ideal.ofBits, Ideal.ieee]

/-- A slot read at an index is the matrix it holds. -/
theorem lift_apply {α : Type} {R C : ℕ} (h : (Mat R C).numel = (⟨3, ![1, R, C]⟩ : Shape).numel) (v : (Mat R C).Idx → α)
    (r : Fin R) (j : Fin C) : lift h v (ix3 0 r j) = v (ix2 r j) := by
  have e : (ix3 0 r j : (⟨3, ![1, R, C]⟩ : Shape).Idx) = Shape.reshapeEquiv h (ix2 r j) :=
    (ValueIdx.reshapeEquiv_ix2_1ab h r j).symm
  rw [e]
  unfold lift
  rw [Equiv.symm_apply_apply]

section Operands
variable (x : Arr Ideal S2048x4096 .f32) (w : Arr Ideal S4096x8192 .f32)

theorem xbBlk_apply (k : ℕ) (r : Fin 2048) (j : Fin 512) : xbBlk x k (ix2 r j) = cut x k (ix2 r j) := by
  unfold xbBlk
  pointwise [k0_pay11]
  exact lift_apply numel_x _ r j

/-- The narrowed `x` is `x`. -/
theorem xb_apply (r : Fin 2048) (d : Fin 4096) : xb x (ix2 r d) = x (ix2 r d) := by
  show xbBlk x (d.val / 512) (ix2 r ⟨d.val % 512, _⟩) = _
  rw [xbBlk_apply]
  show x (ix2 r (Fin.ofNat 4096 (512 * (d.val / 512) + d.val % 512))) = _
  rw [Nat.div_add_mod]
  exact congrArg (fun e => x (ix2 r e)) (Fin.ext (Nat.mod_eq_of_lt d.isLt))

/-- A narrowed block of `w` is the block. -/
theorem wbBlk_apply (k : ℕ) (d : Fin 4096) (j : Fin 512) : wbBlk w k (ix2 d j) = cut w k (ix2 d j) := by
  unfold wbBlk
  pointwise [k0_pay6]
  exact lift_apply numel_w _ d j

end Operands

section Computed
variable (a : Arr Ideal S2048x4096 .bf16) (b : Arr Ideal S4096x512 .bf16) (m s : FVec Ideal S2048x1 .f32)
  (m' s' : Arr Ideal S1x2048x1 .f32) (l : Arr Ideal S2048x512 .bf16) (r : Fin 2048) (j : Fin 512)

/-- A block of logits, -/
theorem logits_apply : k0_pay7 a b (ix2 r j) = ∑ d : Fin 4096, a (ix2 r d) * b (ix2 d j) := by
  pointwise [k0_pay7]

/-- the same as stored, -/
theorem stored_apply : k0_pay10 a b (ix2 r j) = k0_pay7 a b (ix2 r j) := by
  pointwise [k0_pay10]

/-- the next maximum, -/
theorem max_apply : k0_pay8 m a b (ix2 r 0)
    = max (m (ix2 r 0)) (Finset.univ.fold max ⊥ fun j : Fin 512 => k0_pay7 a b (ix2 r j)) := by
  rw [← ofBits_bot]
  pointwise [k0_pay8]

/-- the next sum, -/
theorem sum_apply : k0_pay9 m s a b (ix2 r 0)
    = s (ix2 r 0) * Ideal.exp (m (ix2 r 0) - k0_pay8 m a b (ix2 r 0))
      + ∑ j : Fin 512, Ideal.exp (k0_pay7 a b (ix2 r j) - k0_pay8 m a b (ix2 r 0)) := by
  pointwise [k0_pay9]

/-- and an entry of the result, over the device's own logits -/
theorem own_apply : k0_pay4 m s m' s' l (ix2 r j)
    = Ideal.exp (l (ix2 r j) - max (m (ix2 r 0)) (m' (ix3 0 r 0)))
      * Ideal.div 1 (s (ix2 r 0) * Ideal.exp (m (ix2 r 0) - max (m (ix2 r 0)) (m' (ix3 0 r 0)))
        + s' (ix3 0 r 0) * Ideal.exp (m' (ix3 0 r 0) - max (m (ix2 r 0)) (m' (ix3 0 r 0)))) := by
  rw [← Ideal.ofBits_one_f32]
  pointwise [k0_pay4, k0_pay3, k0_pay2, k0_pay1]

/-- or its peer's: one expression. -/
theorem peer_eq_own : k0_pay5 m s m' s' l = k0_pay4 m s m' s' l := rfl

/-- The number the running maximum starts at, and the sum's. -/
theorem start_apply : (k0_pay12 : FVec Ideal S2048x1 .f32) (ix2 r 0) = Ideal.ofBits .f32 0xF149F2CA#32 := by
  pointwise [k0_pay12]

theorem zero_apply : (k0_pay13 : FVec Ideal S2048x1 .f32) (ix2 r 0) = 0 := by
  pointwise [k0_pay13]

/-- What goes to the peer is spread over the lanes. -/
theorem spreadMax_apply (t : Fin 128) : k0_pay14 m (ix3 0 r t) = m (ix2 r 0) := by
  pointwise [k0_pay14]

theorem spreadSum_apply (t : Fin 128) : k0_pay15 m (ix3 0 r t) = m (ix2 r 0) := by
  pointwise [k0_pay15]

end Computed

end Cert.Fused

end
-- ==== Proof.Online.lean ====
/-
# A row's softmax, by parts

One row of logits, all real numbers. Going through the row in parts, the kernel keeps a shift `m` and the sum of
`exp (logit - m)` over what it has seen; a later, larger shift rescales the sum. What such a pair stands for is the plain
sum `T` of the exponentials: the pair is `m` and `T * exp (-m)`. Two devices' pairs give the quotient `exp l / (T + T')`
whatever the two shifts are, and so does the reference, whose one shift is the row's maximum.
-/
module

public import Idealize.ShloMosaic.PureOps.Ideal
public import Idealize.ShloMosaic.PureOps.Ideal.Laws
public import Idealize.ShloMosaic.Lib.IdealHost

@[expose] public section

noncomputable section

namespace Cert.Fused

open Idealize.ShloMosaic

/-- An extended real whose absolute value is below `⊤` is a real. -/
theorem real_of_abs_lt {a : EReal} (h : max a (-a) < ⊤) : a = ((a.toReal : ℝ) : EReal) := by
  have h1 : a ≠ ⊤ := fun e => by subst e; simp at h
  have h2 : a ≠ ⊥ := fun e => by subst e; simp at h
  exact (EReal.coe_toReal h1 h2).symm

/-- A finite sum of reals, taken among the extended reals. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The larger of two reals. -/
theorem max_coe (a b : ℝ) : max (a : EReal) (b : EReal) = ((max a b : ℝ) : EReal) :=
  ((EReal.coe_strictMono.monotone).map_max).symm

/-- The maximum of a nonempty family of reals, from `⊥`, is a real. -/
theorem fold_max_real {n : ℕ} (hn : 0 < n) (l : Fin n → ℝ) :
    ∃ μ : ℝ, Finset.univ.fold max (⊥ : EReal) (fun j => ((l j : ℝ) : EReal)) = (μ : EReal) := by
  have h1 : Finset.univ.fold max (⊥ : EReal) (fun j => ((l j : ℝ) : EReal)) ≠ ⊤ :=
    ((Finset.fold_max_lt (c := (⊤ : EReal))).2 ⟨bot_lt_top, fun j _ => EReal.coe_lt_top _⟩).ne
  have h2 : Finset.univ.fold max (⊥ : EReal) (fun j => ((l j : ℝ) : EReal)) ≠ ⊥ :=
    ((Finset.lt_fold_max (c := (⊥ : EReal)) (f := fun j : Fin n => ((l j : ℝ) : EReal))).2 (Or.inr ⟨⟨0, hn⟩, Finset.mem_univ _, EReal.bot_lt_coe _⟩)).ne'
  exact ⟨_, (EReal.coe_toReal h1 h2).symm⟩

/-- `m` and `s` are a shift and the sum of exponentials below it, of a part of a row whose exponentials sum to `T`. -/
def Seen (m s : EReal) (T : ℝ) : Prop := ∃ μ : ℝ, m = (μ : EReal) ∧ s = ((T * Real.exp (-μ) : ℝ) : EReal)

/-- Nothing is seen at any real shift and the sum zero. -/
theorem Seen.start (μ : ℝ) : Seen (μ : EReal) 0 0 := ⟨μ, rfl, by simp⟩

/-- Going through `n` more logits. -/
theorem Seen.step {m s : EReal} {T : ℝ} (h : Seen m s T) {n : ℕ} (hn : 0 < n) (l : Fin n → ℝ) :
    Seen (max m (Finset.univ.fold max ⊥ fun j => ((l j : ℝ) : EReal)))
      (s * Ideal.exp (m - max m (Finset.univ.fold max ⊥ fun j => ((l j : ℝ) : EReal)))
        + ∑ j, Ideal.exp (((l j : ℝ) : EReal) - max m (Finset.univ.fold max ⊥ fun j => ((l j : ℝ) : EReal))))
      (T + ∑ j, Real.exp (l j)) := by
  obtain ⟨μ, rfl, rfl⟩ := h
  obtain ⟨ν, hν⟩ := fold_max_real hn l
  rw [hν, max_coe]
  refine ⟨max μ ν, rfl, ?_⟩
  generalize max μ ν = M
  have e1 : ∀ j, Ideal.exp (((l j : ℝ) : EReal) - ((M : ℝ) : EReal)) = ((Real.exp (l j) * Real.exp (-M) : ℝ) : EReal) := fun j => by
    rw [← EReal.coe_sub, Ideal.exp_coe, sub_eq_add_neg, Real.exp_add]
  rw [Finset.sum_congr rfl fun j _ => e1 j, sum_coe, ← EReal.coe_sub, Ideal.exp_coe, ← EReal.coe_mul, ← EReal.coe_add,
    ← Finset.sum_mul, add_mul]
  refine congrArg _ (congrArg (· + _) ?_)
  rw [mul_assoc, ← Real.exp_add]
  exact congrArg (fun t => T * Real.exp t) (by ring)

/-- What is seen of the two halves of a row gives each of its entries. -/
theorem Seen.finish {m s m' s' : EReal} {T T' : ℝ} (h : Seen m s T) (h' : Seen m' s' T') (hT : 0 < T + T') (l : ℝ) :
    Ideal.exp ((l : EReal) - max m m') * Ideal.div 1 (s * Ideal.exp (m - max m m') + s' * Ideal.exp (m' - max m m'))
      = ((Real.exp l / (T + T') : ℝ) : EReal) := by
  obtain ⟨μ, rfl, rfl⟩ := h
  obtain ⟨ν, rfl, rfl⟩ := h'
  rw [max_coe]
  generalize max μ ν = M
  have e : ∀ (t a : ℝ), t * Real.exp (-a) * Real.exp (a - M) = t * Real.exp (-M) := fun t a => by
    rw [mul_assoc, ← Real.exp_add]
    exact congrArg (fun z => t * Real.exp z) (by ring)
  have hne : (T + T') * Real.exp (-M) ≠ 0 := (mul_pos hT (Real.exp_pos _)).ne'
  rw [← EReal.coe_sub, ← EReal.coe_sub, ← EReal.coe_sub, Ideal.exp_coe, Ideal.exp_coe, Ideal.exp_coe, ← EReal.coe_mul,
    ← EReal.coe_mul, ← EReal.coe_add, e, e, ← add_mul, Ideal.div_coe hne, one_mul, ← EReal.coe_mul]
  refine congrArg _ ?_
  have h1 := (Real.exp_pos (-M)).ne'
  have h2 := hT.ne'
  rw [sub_eq_add_neg, Real.exp_add]
  field_simp

/-- The reference's entry: one shift, the maximum of the row. -/
theorem whole_row {n : ℕ} (hn : 0 < n) (l : Fin n → ℝ) (j : Fin n) :
    Ideal.div (Ideal.exp (((l j : ℝ) : EReal) - Finset.univ.fold max ⊥ fun j => ((l j : ℝ) : EReal)))
        (∑ i, Ideal.exp (((l i : ℝ) : EReal) - Finset.univ.fold max ⊥ fun j => ((l j : ℝ) : EReal)))
      = ((Real.exp (l j) / ∑ i, Real.exp (l i) : ℝ) : EReal) := by
  obtain ⟨M, hM⟩ := fold_max_real hn l
  rw [hM]
  have e1 : ∀ j, Ideal.exp (((l j : ℝ) : EReal) - ((M : ℝ) : EReal)) = ((Real.exp (l j) * Real.exp (-M) : ℝ) : EReal) := fun j => by
    rw [← EReal.coe_sub, Ideal.exp_coe, sub_eq_add_neg, Real.exp_add]
  have hpos : 0 < ∑ i, Real.exp (l i) := Finset.sum_pos (fun i _ => Real.exp_pos _) ⟨⟨0, hn⟩, Finset.mem_univ _⟩
  have hne : (∑ i, Real.exp (l i)) * Real.exp (-M) ≠ 0 := (mul_pos hpos (Real.exp_pos _)).ne'
  rw [Finset.sum_congr rfl fun j _ => e1 j, sum_coe, e1, ← Finset.sum_mul, Ideal.div_coe hne, ← EReal.coe_mul]
  refine congrArg _ ?_
  have h1 := (Real.exp_pos (-M)).ne'
  have h2 := hpos.ne'
  field_simp

/-- The kernel's first shift, the float nearest to `-1e30`, is a real. -/
theorem first_shift : ∃ μ : ℝ, Ideal.ofBits .f32 0xF149F2CA#32 = (μ : EReal) := by
  refine ⟨(Ideal.ofBits .f32 0xF149F2CA#32).toReal, (EReal.coe_toReal ?_ ?_).symm⟩ <;> simp [Ideal.ofBits, Ideal.ieee]
  · rw [← EReal.coe_pow, ← EReal.coe_mul]; exact EReal.coe_ne_bot _
  · rw [← EReal.coe_pow, ← EReal.coe_mul]; exact EReal.coe_ne_top _

/-- `a * b` numbers in order are `a` runs of `b`. -/
theorem sum_runs (f : ℕ → ℝ) (a b : ℕ) :
    ∑ i ∈ Finset.range (a * b), f i = ∑ k ∈ Finset.range a, ∑ j ∈ Finset.range b, f (b * k + j) := by
  induction a with
  | zero => simp
  | succ a ih => rw [Nat.succ_mul, Finset.sum_range_add, ih, Finset.sum_range_succ, Nat.mul_comm a b]

/-- Two runs. -/
theorem two_runs (f : ℕ → ℝ) (b : ℕ) :
    ∑ i ∈ Finset.range b, f (b * 0 + i) + ∑ i ∈ Finset.range b, f (b * 1 + i) = ∑ i ∈ Finset.range (2 * b), f i := by
  rw [sum_runs f 2 b, Finset.sum_range_succ _ 1, Finset.sum_range_one]

end Cert.Fused

end
-- ==== Proof.Softmax.lean ====
/-
# What the kernel leaves is the softmax

`x` and the weights are real. Column `n` of the whole row belongs to the device whose half is `n / 8192`; after sixteen
blocks a device's maximum and sum stand for the exponentials of its half, and the two halves' sum is the row's.
-/
module

public import proofs.«01_k».proof.Proof.Reading
public import proofs.«01_k».proof.Proof.Online

@[expose] public section

noncomputable section

namespace Cert.Fused

open Idealize.ShloMosaic Cert.KernelIdeal Cert.KernelIdeal.Gen

variable (X : Fin 2048 → Fin 4096 → ℝ) (W : Fin 4096 → ℕ → ℝ)

/-- The logit of row `r` and column `n` of the whole matrix. -/
def logit (r : Fin 2048) (n : ℕ) : ℝ := ∑ d, X r d * W d n

/-- The sum of the exponentials of the first `n` blocks of half `h`. -/
def part (h : ℕ) (r : Fin 2048) (n : ℕ) : ℝ :=
  ∑ k ∈ Finset.range n, ∑ j : Fin 512, Real.exp (logit X W r (8192 * h + (512 * k + j.val)))

/-- The row's sum. -/
def rowSum (r : Fin 2048) : ℝ := ∑ i ∈ Finset.range 16384, Real.exp (logit X W r i)

theorem rowSum_pos (r : Fin 2048) : 0 < rowSum X W r :=
  Finset.sum_pos (fun _ _ => Real.exp_pos _) ⟨0, Finset.mem_range.2 (by norm_num)⟩

/-- Sixteen blocks are the half. -/
theorem part_half (h : ℕ) (r : Fin 2048) :
    part X W h r 16 = ∑ i ∈ Finset.range 8192, Real.exp (logit X W r (8192 * h + i)) := by
  rw [show 8192 = 16 * 512 from rfl, sum_runs (fun i => Real.exp (logit X W r (16 * 512 * h + i))) 16 512]
  exact Finset.sum_congr rfl fun k _ =>
    (Finset.sum_range fun j => Real.exp (logit X W r (16 * 512 * h + (512 * k + j)))).symm

/-- The two halves are the row. -/
theorem halves (r : Fin 2048) : part X W 0 r 16 + part X W 1 r 16 = rowSum X W r := by
  unfold rowSum
  rw [part_half, part_half]
  exact two_runs (fun i => Real.exp (logit X W r i)) 8192

section Device
variable {X W} {x : Arr Ideal S2048x4096 .f32} {w : Arr Ideal S4096x8192 .f32} {h : ℕ}

/-- The device's operands are `X` and half `h` of `W`. -/
structure Holds (X : Fin 2048 → Fin 4096 → ℝ) (W : Fin 4096 → ℕ → ℝ) (h : ℕ) (x : Arr Ideal S2048x4096 .f32)
    (w : Arr Ideal S4096x8192 .f32) : Prop where
  left : ∀ r d, x (ix2 r d) = ((X r d : ℝ) : EReal)
  right : ∀ d (n : Fin 8192), w (ix2 d n) = ((W d (8192 * h + n.val) : ℝ) : EReal)

variable (H : Holds X W h x w)
include H

/-- Its block `k` of logits. -/
theorem Holds.logits {k : ℕ} (hk : k < 16) (r : Fin 2048) (j : Fin 512) :
    k0_pay7 (xb x) (wbBlk w k) (ix2 r j) = ((logit X W r (8192 * h + (512 * k + j.val)) : ℝ) : EReal) := by
  rw [logits_apply]
  unfold logit
  rw [← sum_coe]
  refine Finset.sum_congr rfl fun d _ => ?_
  have e : wbBlk w k (ix2 d j) = ((W d (8192 * h + (512 * k + j.val)) : ℝ) : EReal) := by
    rw [wbBlk_apply]
    refine (H.right d _).trans ?_
    have e : (512 * k + j.val) % 8192 = 512 * k + j.val := Nat.mod_eq_of_lt (by omega)
    exact congrArg (fun n => ((W d (8192 * h + n) : ℝ) : EReal)) e
  rw [xb_apply, e, H.left, EReal.coe_mul]

theorem Holds.stored {k : ℕ} (hk : k < 16) (r : Fin 2048) (j : Fin 512) :
    lbBlk x w k (ix2 r j) = ((logit X W r (8192 * h + (512 * k + j.val)) : ℝ) : EReal) :=
  (stored_apply _ _ r j).trans (H.logits hk r j)

/-- After `n` blocks it has seen them. -/
theorem Holds.seen (r : Fin 2048) : ∀ n ≤ 16, Seen ((stat x w n).1 (ix2 r 0)) ((stat x w n).2 (ix2 r 0)) (part X W h r n)
  | 0, _ => by
    obtain ⟨μ, hμ⟩ := first_shift
    have e1 : (stat x w 0).1 (ix2 r 0) = (μ : EReal) := (start_apply r).trans hμ
    have e2 : (stat x w 0).2 (ix2 r 0) = 0 := zero_apply r
    rw [e1, e2]
    exact Seen.start μ
  | n + 1, hn => by
    have hs := (Holds.seen r n (by omega)).step (n := 512) (by norm_num) fun j => logit X W r (8192 * h + (512 * n + j.val))
    have e1 : (stat x w (n + 1)).1 (ix2 r 0) = _ := max_apply (xb x) (wbBlk w n) (stat x w n).1 r
    have e2 : (stat x w (n + 1)).2 (ix2 r 0) = _ := sum_apply (xb x) (wbBlk w n) (stat x w n).1 (stat x w n).2 r
    have e3 : part X W h r (n + 1) = _ := Finset.sum_range_succ _ _
    rw [e1, e2, e3, max_apply]
    simp only [H.logits (show n < 16 by omega)]
    exact hs

end Device

/-- The maximum and the sum as the peer reads them. -/
theorem maxCol_apply (x : Arr Ideal S2048x4096 .f32) (w : Arr Ideal S4096x8192 .f32) (r : Fin 2048) :
    maxCol x w (ix3 0 r 0) = (stat x w 16).1 (ix2 r 0) := spreadMax_apply _ r 0

theorem sumCol_apply (x : Arr Ideal S2048x4096 .f32) (w : Arr Ideal S4096x8192 .f32) (r : Fin 2048) :
    sumCol x w (ix3 0 r 0) = (stat x w 16).2 (ix2 r 0) := spreadSum_apply _ r 0

section Pair
variable {X W} {x : Arr Ideal S2048x4096 .f32} {w : Arr Ideal S4096x8192 .f32} {x' : Arr Ideal S2048x4096 .f32}
  {w' : Arr Ideal S4096x8192 .f32} {h h' : ℕ} (H : Holds X W h x w) (H' : Holds X W h' x' w') (hh : h + h' = 1)
include H H' hh

/-- One entry of the result, over any block of real logits. -/
theorem entry (b : Arr Ideal S2048x512 .bf16) (r : Fin 2048) (j : Fin 512) (l : ℝ) (hb : b (ix2 r j) = (l : EReal)) :
    k0_pay4 (stat x w 16).1 (stat x w 16).2 (maxCol x' w') (sumCol x' w') b (ix2 r j)
      = ((Real.exp l / rowSum X W r : ℝ) : EReal) := by
  have hT : part X W h r 16 + part X W h' r 16 = rowSum X W r := by
    rcases (show h = 0 ∧ h' = 1 ∨ h = 1 ∧ h' = 0 by omega) with ⟨rfl, rfl⟩ | ⟨rfl, rfl⟩
    · exact halves X W r
    · exact (add_comm _ _).trans (halves X W r)
  rw [own_apply, hb, maxCol_apply, sumCol_apply,
    (H.seen r 16 le_rfl).finish (H'.seen r 16 le_rfl) (hT ▸ rowSum_pos X W r) l, hT]

/-- A device's result: entry `(r, n)` is `exp (logit) / rowSum`. -/
theorem out_apply (r : Fin 2048) (n : Fin 16384) :
    out x w x' w' h (ix2 r n) = ((Real.exp (logit X W r n.val) / rowSum X W r : ℝ) : EReal) := by
  have hn := n.isLt
  show outBlk x w x' w' h (n.val / 512) (ix2 r ⟨n.val % 512, _⟩) = _
  unfold outBlk
  split
  · next hq =>
    refine (entry H H' hh _ r _ _ (H.stored (k := n.val / 512 % 16) (by omega) r _)).trans ?_
    rw [show 8192 * h + (512 * (n.val / 512 % 16) + n.val % 512) = n.val by omega]
  · next hq =>
    refine (congrFun (peer_eq_own _ _ _ _ _) _).trans ?_
    refine (entry H H' hh _ r _ _ (H'.stored (k := n.val / 512 % 16) (by omega) r _)).trans ?_
    rw [show 8192 * h' + (512 * (n.val / 512 % 16) + n.val % 512) = n.val by omega]

end Pair

end Cert.Fused

end
-- ==== Proof.Reference.lean ====
/-
# The reference's result, read at an index over the reals
-/
module

public import proofs.«01_k».proof.Proof.Softmax
public import proofs.«01_k».proof.Proof.Gen.ReferenceIdeal
public import proofs.«01_k».proof.Proof.Gen.ReferenceIdeal.Run

@[expose] public section

noncomputable section

namespace Cert.Fused

open Idealize.ShloMosaic Cert.ReferenceIdeal Cert.ReferenceIdeal.Gen

/-- The reference's logits, -/
def refLogits (x : FVec Ideal S2048x4096 .f32) (w : FVec Ideal S4096x16384 .f32) : FVec Ideal S2048x16384 .f32 :=
  Host.dotGeneral dot_S2048x4096_S4096x16384_S2048x16384_1_0_0_1_n_n none x w

/-- the exponentials below the row's maximum, -/
def refExp (l : FVec Ideal S2048x16384 .f32) : FVec Ideal S2048x16384 .f32 :=
  Host.exp (subf l (broadcastInDim S2048x16384 ![0, 1] bcast_S2048x1_S2048x16384_0_1
    (broadcastInDim S2048x1 ![0] bcast_S2048_S2048x1_0
      (Host.reduce FloatOps.maximumf l (constant S_ .f32 0xFF800000#32) reducesTo_S2048x16384_S2048_d1 h_S_))))

/-- and each over their sum. -/
def refQuot (e : FVec Ideal S2048x16384 .f32) : FVec Ideal S2048x16384 .f32 :=
  Host.divf e (broadcastInDim S2048x16384 ![0, 1] bcast_S2048x1_S2048x16384_0_1
    (broadcastInDim S2048x1 ![0] bcast_S2048_S2048x1_0
      (Host.reduceAdd e (constant S_ .f32 0x00000000#32) reducesTo_S2048x16384_S2048_d1 h_S_)))

variable (x : FVec Ideal S2048x4096 .f32) (w : FVec Ideal S4096x16384 .f32) (l : FVec Ideal S2048x16384 .f32) (r : Fin 2048) (c : Fin 16384)

theorem refLogits_apply : refLogits x w (ix2 r c) = ∑ d : Fin 4096, x (ix2 r d) * w (ix2 d c) := by
  pointwise [refLogits]

theorem refExp_apply : refExp l (ix2 r c)
    = Ideal.exp (l (ix2 r c) - Finset.univ.fold max ⊥ fun i : Fin 16384 => l (ix2 r i)) := by
  rw [← ofBits_bot]
  pointwise [refExp]

theorem refQuot_apply : refQuot l (ix2 r c) = Ideal.div (l (ix2 r c)) (∑ i : Fin 16384, l (ix2 r i)) := by
  pointwise [refQuot]

/-- Over real operands the reference's entry `(r, c)` is `exp (logit) / rowSum`. -/
theorem reference_apply {X : Fin 2048 → Fin 4096 → ℝ} {W : Fin 4096 → ℕ → ℝ} (hx : ∀ r d, x (ix2 r d) = ((X r d : ℝ) : EReal))
    (hw : ∀ d (n : Fin 16384), w (ix2 d n) = ((W d n.val : ℝ) : EReal)) :
    refQuot (refExp (refLogits x w)) (ix2 r c) = ((Real.exp (logit X W r c.val) / rowSum X W r : ℝ) : EReal) := by
  have hl : ∀ i : Fin 16384, refLogits x w (ix2 r i) = ((logit X W r i.val : ℝ) : EReal) := fun i => by
    rw [refLogits_apply]
    unfold logit
    rw [← sum_coe]
    exact Finset.sum_congr rfl fun d _ => by rw [hx, hw, EReal.coe_mul]
  rw [refQuot_apply]
  simp only [refExp_apply, hl]
  rw [whole_row (by norm_num) (fun i : Fin 16384 => logit X W r i.val) c]
  unfold rowSum
  rw [Finset.sum_range]

end Cert.Fused

end
-- ==== Proof.Algebraic.lean ====
/-
# The kernel's result is the reference's

From finite inputs, real operands; a device's half of the weights, and its peer's; then both results, entry by entry.
-/
module

public import proofs.«01_k».proof.Proof.Reference
public import proofs.«01_k».proof.Proof.Frames

@[expose] public section

noncomputable section

namespace Cert.Fused

open Idealize.ShloMosaic Idealize.ShloMosaic.TcCoe Idealize.SL.Sem

instance preKernelFacts : Cert.Pre_finite_inputs_KernelIdeal.Facts where
  bcast_S_S2048x4096 := by decide
  bcast_S_S4096x8192 := by decide

instance preReferenceFacts : Cert.Pre_finite_inputs_ReferenceIdeal.Facts where
  bcast_S_S2048x4096 := by decide
  bcast_S_S4096x16384 := by decide

/-- A comparison `< ∞` that holds. -/
theorem lt_of_cmp {a b : EReal} (h : Ideal.cmp .olt a b = 1#1) : a < b := by
  by_contra hn
  have e : BitVec.ofBool (decide (a < b)) = 1#1 := h
  rw [decide_eq_false hn] at e
  exact absurd e (by decide)

theorem ofBits_top : Ideal.ofBits .f32 0x7F800000#32 = ⊤ := by simp [Ideal.ofBits, Ideal.ieee]

/-- What the precondition says of one element: it is a real. -/
theorem real_of_test {s : Shape} (x : FVec Ideal s .f32) (h : (⟨0, ![]⟩ : Shape).BroadcastsInDim s (![] : Fin 0 → Fin s.rank))
    (e : cmpf .olt (Host.absf x) (broadcastInDim s ![] h (constant ⟨0, ![]⟩ .f32 0x7F800000#32)) = fun _ => 1#1) (i : s.Idx) :
    x i = (((x i).toReal : ℝ) : EReal) :=
  real_of_abs_lt (ofBits_top ▸ lt_of_cmp (congrFun e i))

/-- Device `c`'s block of an array cut in two along its columns by the mesh's first axis. -/
theorem half_apply (c : Fin 16) (v : (Mat 4096 16384).Idx → EReal) (d : Fin 4096) (n : Fin 8192) :
    (Layout.blockN ⟨2, ![4096, 8192]⟩ ⟨2, ![4096, 16384]⟩ (Layout.meshBlock [2, 2, 4] ![[], [0]] c) v) (ix2 d n)
      = v (ix2 d (Fin.ofNat 16384 (8192 * (c.val / 8) + n.val))) := by
  have hc : Layout.meshLin [2, 2, 4] c.val [0] = c.val / 8 := by revert c; decide
  have hn := n.isLt
  have hc' := c.isLt
  rw [Layout.blockN_apply]
  refine congrArg v (funext fun b => Fin.ext ?_)
  rw [Layout.TilesN.idx_val]
  match b with
  | ⟨0, _⟩ =>
    show Layout.meshLin [2, 2, 4] c.val [] * 4096 + d.val = d.val
    rw [show Layout.meshLin [2, 2, 4] c.val [] = 0 from rfl, Nat.zero_mul, Nat.zero_add]
  | ⟨1, _⟩ =>
    show Layout.meshLin [2, 2, 4] c.val [0] * 8192 + n.val = (8192 * (c.val / 8) + n.val) % 16384
    rw [hc, Nat.mod_eq_of_lt (by omega), Nat.mul_comm]

section Results
variable (m : (ℓ : Loc Cert.KernelIdeal.nD Cert.KernelIdeal.τ Cert.KernelIdeal.sig) → Buf (Elt Ideal) ℓ)
  (x : FVec Ideal Cert.ReferenceIdeal.S2048x4096 .f32) (w : FVec Ideal Cert.ReferenceIdeal.S4096x16384 .f32)
  (hpre : Cert.Pre_KernelIdeal_finite_inputs_KernelIdeal m)
  (hx : ∀ c, xA m c = x)
  (hw : ∀ c, wA m c = Layout.blockN ⟨2, ![4096, 8192]⟩ ⟨2, ![4096, 16384]⟩ (Layout.meshBlock [2, 2, 4] ![[], [0]] c) w)

/-- The reals that `x` holds, -/
def realX (r : Fin 2048) (d : Fin 4096) : ℝ := (x (ix2 r d)).toReal
/-- and the weights. -/
def realW (d : Fin 4096) (n : ℕ) : ℝ := (w (ix2 d (Fin.ofNat 16384 n))).toReal

include hpre hx in
theorem x_real (r : Fin 2048) (d : Fin 4096) : x (ix2 r d) = ((realX x r d : ℝ) : EReal) :=
  hx 0 ▸ real_of_test (xA m 0) _ (hpre 0).1 (ix2 r d)

include hpre hw in
theorem w_real (c : Dev Cert.KernelIdeal.nD) (d : Fin 4096) (n : Fin 8192) :
    wA m c (ix2 d n) = ((realW w d (8192 * (c.val / 8) + n.val) : ℝ) : EReal) := by
  have e : wA m c (ix2 d n) = w (ix2 d (Fin.ofNat 16384 (8192 * (c.val / 8) + n.val))) :=
    (congrFun (hw c) _).trans (half_apply c w d n)
  unfold realW
  rw [← e]
  exact real_of_test (wA m c) _ (hpre c).2 (ix2 d n)

include hpre hx hw

/-- A device holds its half. -/
theorem holds (c : Dev Cert.KernelIdeal.nD) : Holds (realX x) (realW w) (c.val / 8) (xA m c) (wA m c) where
  left := fun r d => (congrFun (hx c) _).trans (x_real m x hpre hx r d)
  right := w_real m w hpre hw c

/-- Every device's result is the reference's. -/
theorem result_eq (c : Dev Cert.KernelIdeal.nD) : outA m c = refQuot (refExp (refLogits x w)) := by
  have hc : c.val / 8 + (peer c).val / 8 = 1 := by revert c; decide
  funext i
  rw [eq_ix2 i]
  have hk := out_apply (holds m x w hpre hx hw c) (holds m x w hpre hx hw (peer c)) hc (i 0) (i 1)
  refine hk.trans (reference_apply x w (i 0) (i 1) (x_real m x hpre hx) fun d n => ?_).symm
  have hn := n.isLt
  have hd : 8 * (n.val / 8192) < 16 := by omega
  have e := w_real m w hpre hw ⟨8 * (n.val / 8192), hd⟩ d ⟨n.val % 8192, Nat.mod_lt _ (by norm_num)⟩
  rw [hw, half_apply] at e
  have e1 : 8192 * (8 * (n.val / 8192) / 8) + n.val % 8192 = n.val := by omega
  have e2 : Fin.ofNat 16384 n.val = n := Fin.ext (Nat.mod_eq_of_lt hn)
  simp only [e1, e2] at e
  exact e

end Results

/-- The kernel over the reals, from finite inputs, computes the reference. -/
theorem algebraic : Cert.algebraic_KernelIdeal_ReferenceIdeal_pre_finite_inputs_KernelIdeal := fun m g m' g' hpre hargs =>
  ⟨refQuot (refExp (refLogits (m' ((0 : Dev Cert.ReferenceIdeal.nD).tc.loc Cert.ReferenceIdeal.main_arg0))
      (m' ((0 : Dev Cert.ReferenceIdeal.nD).tc.loc Cert.ReferenceIdeal.main_arg1)))),
    (θ_run Cert.KernelIdeal.defs _ _).mono
      (fun _ h c => ⟨(h.1 c).2.2.2.trans (result_eq m _ _ hpre (fun c => (hargs c).1) (fun c => (hargs c).2) c),
        (h.1 c).2.1, (h.1 c).2.2.1⟩)
      (run_main (F := Ideal) m g),
    (θ_run Cert.ReferenceIdeal.defs _ _).mono (fun _ h => h 0) (Cert.ReferenceIdeal.Value.run (F := Ideal) m' g')⟩

end Cert.Fused

end
-- ==== Proof.lean ====
module

public import proofs.«01_k».proof.Defs
public import proofs.«01_k».proof.Proof.Frames
public import proofs.«01_k».proof.Proof.Algebraic
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Fused.preKernelFacts, Cert.Fused.preReferenceFacts,
  Cert.Fused.frame_kernel, Cert.Fused.frame_ideal, fun m ρ _ => Cert.Fused.frame_ideal m ρ trivial,
  Cert.Fused.frame_reference, fun m ρ _ => Cert.Fused.frame_reference m ρ trivial, trivial, Cert.Fused.algebraic⟩

end Cert.Proof

end
